-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_solvable [hPre_solvable : Cert.Pre_solvable.Facts] (m : (ℓ : Loc Cert.KernelIdeal.nD Cert.KernelIdeal.τ Cert.KernelIdeal.sig) → Buf (Elt Ideal) ℓ) : Prop :=
  ∀ c : Dev Cert.KernelIdeal.nD,
    (Cert.Pre_solvable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_solvable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_solvable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_solvable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_solvable [hPre_solvable : Cert.Pre_solvable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_solvable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_solvable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_solvable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_solvable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_solvable [hKernelIdeal : Cert.KernelIdeal.Facts] [hPre_solvable : Cert.Pre_solvable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_solvable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_solvable [hReferenceIdeal : Cert.ReferenceIdeal.Facts] [hPre_solvable : Cert.Pre_solvable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_solvable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_solvable [hKernelIdeal : Cert.KernelIdeal.Facts] [hReferenceIdeal : Cert.ReferenceIdeal.Facts] [hPre_solvable : Cert.Pre_solvable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_solvable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v40_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_solvable : Cert.Pre_solvable.Facts),
    quiescent_Kernel (hKernel := hKernel)
    ∧ quiescent_KernelIdeal (hKernelIdeal := hKernelIdeal)
    ∧ quiescent_KernelIdeal_pre_solvable (hKernelIdeal := hKernelIdeal) (hPre_solvable := hPre_solvable)
    ∧ quiescent_ReferenceIdeal (hReferenceIdeal := hReferenceIdeal)
    ∧ quiescent_ReferenceIdeal_pre_solvable (hReferenceIdeal := hReferenceIdeal) (hPre_solvable := hPre_solvable)
    ∧ preserves_Kernel_KernelIdeal
    ∧ algebraic_KernelIdeal_ReferenceIdeal_pre_solvable (hKernelIdeal := hKernelIdeal) (hReferenceIdeal := hReferenceIdeal) (hPre_solvable := hPre_solvable)
-- ==== Pre_solvable.lean ====
abbrev S5x1536x5120 : Shape := ⟨3, ![5, 1536, 5120]⟩
abbrev S5x1536x1280 : Shape := ⟨3, ![5, 1536, 1280]⟩
abbrev S5x40x256x4 : Shape := ⟨4, ![5, 40, 256, 4]⟩
abbrev S5120x5120 : Shape := ⟨2, ![5120, 5120]⟩
abbrev S_ : Shape := ⟨0, ![]⟩

class Facts : Prop where
  bitsLt_bf16_f32 : FTy.bits .bf16 < FTy.bits .f32
  bcast_S_S5x1536x5120 : S_.BroadcastsInDim S5x1536x5120 (![] : Fin 0 → Fin S5x1536x5120.rank)
  natLt_16_32 : 16 < 32
  bcast_S_S5x40x256x4 : S_.BroadcastsInDim S5x40x256x4 (![] : Fin 0 → Fin S5x40x256x4.rank)
  bcast_S_S5120x5120 : S_.BroadcastsInDim S5120x5120 (![] : Fin 0 → Fin S5120x5120.rank)

variable [Facts]

def fn_part1 {F : FTy → Type} [FloatOps F] (main_v5 : IVec S5x1536x5120 1) (main_v10 : IVec S5x40x256x4 1) (main_v15 : IVec S5120x5120 1) (main_v16 : IVec S5120x5120 1) (main_v18 : IVec S5120x5120 1) : IVec S5x1536x5120 1 × IVec S5x40x256x4 1 × IVec S5120x5120 1 × IVec S5120x5120 1 :=
  let main_v19 : IVec S5120x5120 1 := ori main_v16 main_v18
  (main_v5, main_v10, main_v15, main_v19)

def fn {F : FTy → Type} [FloatOps F] (main_arg0 : FVec F S5x1536x5120 .bf16) (main_arg1 : IVec S5x1536x1280 8) (main_arg2 : IVec S5x40x256x4 16) (main_arg3 : FVec F S5120x5120 .f32) : IVec S5x1536x5120 1 × IVec S5x40x256x4 1 × IVec S5120x5120 1 × IVec S5120x5120 1 :=
  let main_v0 : IVec S5120x5120 32 := iotaInDim S5120x5120 32 0
  let main_v1 : IVec S5120x5120 32 := iotaInDim S5120x5120 32 1
  let main_v2 : FVec F S5x1536x5120 .f32 := (extf .f32 · bitsLt_bf16_f32) main_arg0
  let main_v3 : FVec F S5x1536x5120 .f32 := Host.absf main_v2
  let main_cst : FVec F S_ .f32 := constant S_ .f32 0x7F800000#32
  let main_v4 : FVec F S5x1536x5120 .f32 := broadcastInDim S5x1536x5120 ![] bcast_S_S5x1536x5120 main_cst
  let main_v5 : IVec S5x1536x5120 1 := cmpf .olt main_v3 main_v4
  let main_v6 : IVec S5x40x256x4 32 := (extui 32 · natLt_16_32) main_arg2
  let main_c : IVec S_ 32 := constantI S_ 32 32640#32
  let main_v7 : IVec S5x40x256x4 32 := broadcastInDim S5x40x256x4 ![] bcast_S_S5x40x256x4 main_c
  let main_v8 : IVec S5x40x256x4 32 := andi main_v6 main_v7
  let main_c_0 : IVec S_ 32 := constantI S_ 32 32640#32
  let main_v9 : IVec S5x40x256x4 32 := broadcastInDim S5x40x256x4 ![] bcast_S_S5x40x256x4 main_c_0
  let main_v10 : IVec S5x40x256x4 1 := cmpi .ne main_v8 main_v9
  let main_v11 : IVec S5120x5120 1 := cmpi .sgt main_v0 main_v1
  let main_v12 : FVec F S5120x5120 .f32 := Host.absf main_arg3
  let main_cst_1 : FVec F S_ .f32 := constant S_ .f32 0x7F800000#32
  let main_v13 : FVec F S5120x5120 .f32 := broadcastInDim S5120x5120 ![] bcast_S_S5120x5120 main_cst_1
  let main_v14 : IVec S5120x5120 1 := cmpf .olt main_v12 main_v13
  let main_v15 : IVec S5120x5120 1 := ori main_v11 main_v14
  let main_v16 : IVec S5120x5120 1 := cmpi .ne main_v0 main_v1
  let main_cst_2 : FVec F S_ .f32 := constant S_ .f32 0x00000000#32
  let main_v17 : FVec F S5120x5120 .f32 := broadcastInDim S5120x5120 ![] bcast_S_S5120x5120 main_cst_2
  let main_v18 : IVec S5120x5120 1 := cmpf .une main_arg3 main_v17
  fn_part1 (F := F) main_v5 main_v10 main_v15 main_v16 main_v18
-- ==== Kernel.lean ====
abbrev S5x1536x5120 : Shape := ⟨3, ![5, 1536, 5120]⟩
abbrev S5x1536x1280 : Shape := ⟨3, ![5, 1536, 1280]⟩
abbrev S5x40x256x4 : Shape := ⟨4, ![5, 40, 256, 4]⟩
abbrev S5120x5120 : Shape := ⟨2, ![5120, 5120]⟩
abbrev S5x40x4x256 : Shape := ⟨4, ![5, 40, 4, 256]⟩
abbrev S5x40x4x128 : Shape := ⟨4, ![5, 40, 4, 128]⟩
abbrev S_ : Shape := ⟨0, ![]⟩
abbrev S20x3x256x256 : Shape := ⟨4, ![20, 3, 256, 256]⟩
abbrev S256x256 : Shape := ⟨2, ![256, 256]⟩
abbrev S1x3x256x256 : Shape := ⟨4, ![1, 3, 256, 256]⟩
abbrev S2x128x128 : Shape := ⟨3, ![2, 128, 128]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S1x1 : Shape := ⟨2, ![1, 1]⟩
abbrev S128x1 : Shape := ⟨2, ![128, 1]⟩
abbrev S120x128 : Shape := ⟨2, ![120, 128]⟩
abbrev S120x1 : Shape := ⟨2, ![120, 1]⟩
abbrev S1x120x128 : Shape := ⟨3, ![1, 120, 128]⟩
abbrev S112x128 : Shape := ⟨2, ![112, 128]⟩
abbrev S112x1 : Shape := ⟨2, ![112, 1]⟩
abbrev S1x112x128 : Shape := ⟨3, ![1, 112, 128]⟩
abbrev S104x128 : Shape := ⟨2, ![104, 128]⟩
abbrev S104x1 : Shape := ⟨2, ![104, 1]⟩
abbrev S1x104x128 : Shape := ⟨3, ![1, 104, 128]⟩
abbrev S96x128 : Shape := ⟨2, ![96, 128]⟩
abbrev S96x1 : Shape := ⟨2, ![96, 1]⟩
abbrev S1x96x128 : Shape := ⟨3, ![1, 96, 128]⟩
abbrev S88x128 : Shape := ⟨2, ![88, 128]⟩
abbrev S88x1 : Shape := ⟨2, ![88, 1]⟩
abbrev S1x88x128 : Shape := ⟨3, ![1, 88, 128]⟩
abbrev S80x128 : Shape := ⟨2, ![80, 128]⟩
abbrev S80x1 : Shape := ⟨2, ![80, 1]⟩
abbrev S1x80x128 : Shape := ⟨3, ![1, 80, 128]⟩
abbrev S72x128 : Shape := ⟨2, ![72, 128]⟩
abbrev S72x1 : Shape := ⟨2, ![72, 1]⟩
abbrev S1x72x128 : Shape := ⟨3, ![1, 72, 128]⟩
abbrev S64x128 : Shape := ⟨2, ![64, 128]⟩
abbrev S64x1 : Shape := ⟨2, ![64, 1]⟩
abbrev S1x64x128 : Shape := ⟨3, ![1, 64, 128]⟩
abbrev S56x128 : Shape := ⟨2, ![56, 128]⟩
abbrev S56x1 : Shape := ⟨2, ![56, 1]⟩
abbrev S1x56x128 : Shape := ⟨3, ![1, 56, 128]⟩
abbrev S48x128 : Shape := ⟨2, ![48, 128]⟩
abbrev S48x1 : Shape := ⟨2, ![48, 1]⟩
abbrev S1x48x128 : Shape := ⟨3, ![1, 48, 128]⟩
abbrev S40x128 : Shape := ⟨2, ![40, 128]⟩
abbrev S40x1 : Shape := ⟨2, ![40, 1]⟩
abbrev S1x40x128 : Shape := ⟨3, ![1, 40, 128]⟩
abbrev S32x128 : Shape := ⟨2, ![32, 128]⟩
abbrev S32x1 : Shape := ⟨2, ![32, 1]⟩
abbrev S1x32x128 : Shape := ⟨3, ![1, 32, 128]⟩
abbrev S24x128 : Shape := ⟨2, ![24, 128]⟩
abbrev S24x1 : Shape := ⟨2, ![24, 1]⟩
abbrev S1x24x128 : Shape := ⟨3, ![1, 24, 128]⟩
abbrev S16x128 : Shape := ⟨2, ![16, 128]⟩
abbrev S16x1 : Shape := ⟨2, ![16, 1]⟩
abbrev S1x16x128 : Shape := ⟨3, ![1, 16, 128]⟩
abbrev S8x128 : Shape := ⟨2, ![8, 128]⟩
abbrev S8x1 : Shape := ⟨2, ![8, 1]⟩
abbrev S1x8x128 : Shape := ⟨3, ![1, 8, 128]⟩
abbrev S128x256 : Shape := ⟨2, ![128, 256]⟩
abbrev S1x1x128x256 : Shape := ⟨4, ![1, 1, 128, 256]⟩
abbrev S1x768x256 : Shape := ⟨3, ![1, 768, 256]⟩
abbrev S1x768x128 : Shape := ⟨3, ![1, 768, 128]⟩
abbrev S1x2x4x128 : Shape := ⟨4, ![1, 2, 4, 128]⟩
abbrev S5120x256 : Shape := ⟨2, ![5120, 256]⟩
abbrev S3x768x5120 : Shape := ⟨3, ![3, 768, 5120]⟩
abbrev S768x256 : Shape := ⟨2, ![768, 256]⟩
abbrev S64x128x1 : Shape := ⟨3, ![64, 128, 1]⟩
abbrev S1x1x1x128 : Shape := ⟨4, ![1, 1, 1, 128]⟩
abbrev S1x1x256x256 : Shape := ⟨4, ![1, 1, 256, 256]⟩

abbrev nBuf : Space → Nat
  | .hbm => 16
  | .vmem => 21
  | .smem => 0
  | _ => 0

abbrev bufTy : (tb : Table) → Fin (tcTables nBuf tb) → BufTy
  | .hbm, ⟨0, _⟩ => ⟨S5x1536x5120, .bf16⟩
  | .hbm, ⟨1, _⟩ => ⟨S5x1536x1280, .i8⟩
  | .hbm, ⟨2, _⟩ => ⟨S5x40x256x4, .i16⟩
  | .hbm, ⟨3, _⟩ => ⟨S5120x5120, .f32⟩
  | .hbm, ⟨4, _⟩ => ⟨S5x40x256x4, .i32⟩
  | .hbm, ⟨5, _⟩ => ⟨S5x40x4x256, .i32⟩
  | .hbm, ⟨6, _⟩ => ⟨S5x40x4x128, .i32⟩
  | .hbm, ⟨7, _⟩ => ⟨S5x40x4x128, .i32⟩
  | .hbm, ⟨8, _⟩ => ⟨S_, .i32⟩
  | .hbm, ⟨9, _⟩ => ⟨S5x40x4x128, .i32⟩
  | .hbm, ⟨10, _⟩ => ⟨S5x40x4x128, .i32⟩
  | .hbm, ⟨11, _⟩ => ⟨S5x40x4x128, .i32⟩
  | .hbm, ⟨12, _⟩ => ⟨S5x40x4x128, .i32⟩
  | .hbm, ⟨13, _⟩ => ⟨S20x3x256x256, .bf16⟩
  | .hbm, ⟨14, _⟩ => ⟨S5x1536x5120, .bf16⟩
  | .hbm, ⟨15, _⟩ => ⟨S5x1536x5120, .f32⟩
  | .local _ .vmem, ⟨0, _⟩ => ⟨S256x256, .f32⟩
  | .local _ .vmem, ⟨1, _⟩ => ⟨S256x256, .f32⟩
  | .local _ .vmem, ⟨2, _⟩ => ⟨S1x3x256x256, .bf16⟩
  | .local _ .vmem, ⟨3, _⟩ => ⟨S1x3x256x256, .bf16⟩
  | .local _ .vmem, ⟨4, _⟩ => ⟨S2x128x128, .f32⟩
  | .local _ .vmem, ⟨5, _⟩ => ⟨S1x768x256, .bf16⟩
  | .local _ .vmem, ⟨6, _⟩ => ⟨S1x768x256, .bf16⟩
  | .local _ .vmem, ⟨7, _⟩ => ⟨S1x768x128, .i8⟩
  | .local _ .vmem, ⟨8, _⟩ => ⟨S1x768x128, .i8⟩
  | .local _ .vmem, ⟨9, _⟩ => ⟨S1x2x4x128, .i32⟩
  | .local _ .vmem, ⟨10, _⟩ => ⟨S1x2x4x128, .i32⟩
  | .local _ .vmem, ⟨11, _⟩ => ⟨S5120x256, .f32⟩
  | .local _ .vmem, ⟨12, _⟩ => ⟨S5120x256, .f32⟩
  | .local _ .vmem, ⟨13, _⟩ => ⟨S1x3x256x256, .bf16⟩
  | .local _ .vmem, ⟨14, _⟩ => ⟨S1x3x256x256, .bf16⟩
  | .local _ .vmem, ⟨15, _⟩ => ⟨S1x768x256, .bf16⟩
  | .local _ .vmem, ⟨16, _⟩ => ⟨S1x768x256, .bf16⟩
  | .local _ .vmem, ⟨17, _⟩ => ⟨S1x768x256, .f32⟩
  | .local _ .vmem, ⟨18, _⟩ => ⟨S1x768x256, .f32⟩
  | .local _ .vmem, ⟨19, _⟩ => ⟨S3x768x5120, .bf16⟩
  | .local _ .vmem, ⟨20, _⟩ => ⟨S768x256, .f32⟩
  | _, _ => ⟨S5x1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  ![arg0.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![10, 20], ![false, false]⟩

@[reducible] def k1_t1_loop : Scf.Loop 32 :=
  let c0_i32 : BitVec 32 := 0#32
  let c12_i32 : BitVec 32 := 12#32
  let v1 : BitVec 32 := Scalar.addi c0_i32 c12_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg11 : BitVec 32 := Scf.iv c0_i32 c1_i32 k1_t1
  let c64_i32 : BitVec 32 := 64#32
  let v68 : BitVec 32 := Scalar.muli arg11 c64_i32
  v68
def k1_off1 (k1_t1 : Fin k1_t1_loop.trips) : Fin 3 → Nat :=
  let c0_39 : Index := 0#32
  let c0_i32 : BitVec 32 := 0#32
  let c1_i32 : BitVec 32 := 1#32
  let arg11 : BitVec 32 := Scf.iv c0_i32 c1_i32 k1_t1
  let c64_i32 : BitVec 32 := 64#32
  let v68 : BitVec 32 := Scalar.muli arg11 c64_i32
  let v69 : BitVec 32 := v68
  let v70 : Index := Scalar.indexCast v69
  let c0_40 : Index := 0#32
  ![0, v70.toNat, 0]
def k1_off2 (k1_t1 : Fin k1_t1_loop.trips) : Fin 3 → Nat :=
  let c0_85 : Index := 0#32
  let c0_i32 : BitVec 32 := 0#32
  let c1_i32 : BitVec 32 := 1#32
  let arg11 : BitVec 32 := Scf.iv c0_i32 c1_i32 k1_t1
  let c64_i32 : BitVec 32 := 64#32
  let v68 : BitVec 32 := Scalar.muli arg11 c64_i32
  let v69 : BitVec 32 := v68
  let v194 : Index := Scalar.indexCast v69
  let c0_86 : Index := 0#32
  ![0, v194.toNat, 0]
def k1_off3 (k1_t1 : Fin k1_t1_loop.trips) : Fin 3 → Nat :=
  let c0_137 : Index := 0#32
  let c0_i32 : BitVec 32 := 0#32
  let c1_i32 : BitVec 32 := 1#32
  let arg11 : BitVec 32 := Scf.iv c0_i32 c1_i32 k1_t1
  let c64_i32 : BitVec 32 := 64#32
  let v68 : BitVec 32 := Scalar.muli arg11 c64_i32
  let v69 : BitVec 32 := v68
  let v318 : Index := Scalar.indexCast v69
  let c128 : Index := 128#32
  ![0, v318.toNat, 128]
@[reducible] def k1_t2_loop (i : grid1.Coords) : Scf.Loop 32 :=
  let c0_i32_8 : BitVec 32 := 0#32
  let arg1 : BitVec 32 := BitVec.ofNat 32 (i 1).val
  let v12 : BitVec 32 := Scalar.subi arg1 c0_i32_8
  let c1_i32_10 : BitVec 32 := 1#32
  let v14 : BitVec 32 := Scalar.divsi v12 c1_i32_10
  let v15 : BitVec 32 := Scalar.muli v14 c1_i32_10
  let v16 : BitVec 32 := Scalar.addi c0_i32_8 v15
  let c1_i32_11 : BitVec 32 := 1#32
  ⟨c0_i32_8, v16, c1_i32_11⟩
def k1_mult2 (i : grid1.Coords) (k1_t2 : Fin (k1_t2_loop i).trips) : BitVec 32 :=
  let c0_i32_8 : BitVec 32 := 0#32
  let c1_i32_11 : BitVec 32 := 1#32
  let arg11 : BitVec 32 := Scf.iv c0_i32_8 c1_i32_11 k1_t2
  let c256_i32_39 : BitVec 32 := 256#32
  let v68 : BitVec 32 := Scalar.muli arg11 c256_i32_39
  v68
def k1_off4 (i : grid1.Coords) (k1_t2 : Fin (k1_t2_loop i).trips) : Fin 3 → Nat :=
  let c0_40 : Index := 0#32
  let c0_41 : Index := 0#32
  let c0_i32_8 : BitVec 32 := 0#32
  let c1_i32_11 : BitVec 32 := 1#32
  let arg11 : BitVec 32 := Scf.iv c0_i32_8 c1_i32_11 k1_t2
  let c256_i32_39 : BitVec 32 := 256#32
  let v68 : BitVec 32 := Scalar.muli arg11 c256_i32_39
  let v69 : BitVec 32 := v68
  let v70 : Index := Scalar.indexCast v69
  ![0, 0, v70.toNat]
def k1_off5 (i : grid1.Coords) (k1_t2 : Fin (k1_t2_loop i).trips) : Fin 3 → Nat :=
  let c1_42 : Index := 1#32
  let c0_43 : Index := 0#32
  let c0_i32_8 : BitVec 32 := 0#32
  let c1_i32_11 : BitVec 32 := 1#32
  let arg11 : BitVec 32 := Scf.iv c0_i32_8 c1_i32_11 k1_t2
  let c256_i32_39 : BitVec 32 := 256#32
  let v68 : BitVec 32 := Scalar.muli arg11 c256_i32_39
  let v69 : BitVec 32 := v68
  let v73 : Index := Scalar.indexCast v69
  ![1, 0, v73.toNat]
def k1_off6 (i : grid1.Coords) (k1_t2 : Fin (k1_t2_loop i).trips) : Fin 3 → Nat :=
  let c2_44 : Index := 2#32
  let c0_45 : Index := 0#32
  let c0_i32_8 : BitVec 32 := 0#32
  let c1_i32_11 : BitVec 32 := 1#32
  let arg11 : BitVec 32 := Scf.iv c0_i32_8 c1_i32_11 k1_t2
  let c256_i32_39 : BitVec 32 := 256#32
  let v68 : BitVec 32 := Scalar.muli arg11 c256_i32_39
  let v69 : BitVec 32 := v68
  let v76 : Index := Scalar.indexCast v69
  ![2, 0, v76.toNat]
def k1_off7 (i : grid1.Coords) (k1_t2 : Fin (k1_t2_loop i).trips) : Fin 2 → Nat :=
  let c0_i32_8 : BitVec 32 := 0#32
  let c1_i32_11 : BitVec 32 := 1#32
  let arg11 : BitVec 32 := Scf.iv c0_i32_8 c1_i32_11 k1_t2
  let c256_i32_39 : BitVec 32 := 256#32
  let v68 : BitVec 32 := Scalar.muli arg11 c256_i32_39
  let v69 : BitVec 32 := v68
  let v80 : Index := Scalar.indexCast v69
  let c0_48 : Index := 0#32
  ![v80.toNat, 0]
@[reducible] def k1_t3_loop (i : grid1.Coords) : Scf.Loop 32 :=
  let c0_i32_8 : BitVec 32 := 0#32
  let arg1 : BitVec 32 := BitVec.ofNat 32 (i 1).val
  let v12 : BitVec 32 := Scalar.subi arg1 c0_i32_8
  let c1_i32_10 : BitVec 32 := 1#32
  let v14 : BitVec 32 := Scalar.divsi v12 c1_i32_10
  let v15 : BitVec 32 := Scalar.muli v14 c1_i32_10
  let v16 : BitVec 32 := Scalar.addi c0_i32_8 v15
  let v13 : BitVec 32 := Scalar.addi c0_i32_8 v12
  let c1_i32_12 : BitVec 32 := 1#32
  ⟨v16, v13, c1_i32_12⟩
def k1_mult3 (i : grid1.Coords) (k1_t3 : Fin (k1_t3_loop i).trips) : BitVec 32 :=
  let c0_i32_8 : BitVec 32 := 0#32
  let arg1 : BitVec 32 := BitVec.ofNat 32 (i 1).val
  let v12 : BitVec 32 := Scalar.subi arg1 c0_i32_8
  let c1_i32_10 : BitVec 32 := 1#32
  let v14 : BitVec 32 := Scalar.divsi v12 c1_i32_10
  let v15 : BitVec 32 := Scalar.muli v14 c1_i32_10
  let v16 : BitVec 32 := Scalar.addi c0_i32_8 v15
  let c1_i32_12 : BitVec 32 := 1#32
  let arg11 : BitVec 32 := Scf.iv v16 c1_i32_12 k1_t3
  let c256_i32_39 : BitVec 32 := 256#32
  let v68 : BitVec 32 := Scalar.muli arg11 c256_i32_39
  v68
def k1_off8 (i : grid1.Coords) (k1_t3 : Fin (k1_t3_loop i).trips) : Fin 3 → Nat :=
  let c0_40 : Index := 0#32
  let c0_41 : Index := 0#32
  let c0_i32_8 : BitVec 32 := 0#32
  let arg1 : BitVec 32 := BitVec.ofNat 32 (i 1).val
  let v12 : BitVec 32 := Scalar.subi arg1 c0_i32_8
  let c1_i32_10 : BitVec 32 := 1#32
  let v14 : BitVec 32 := Scalar.divsi v12 c1_i32_10
  let v15 : BitVec 32 := Scalar.muli v14 c1_i32_10
  let v16 : BitVec 32 := Scalar.addi c0_i32_8 v15
  let c1_i32_12 : BitVec 32 := 1#32
  let arg11 : BitVec 32 := Scf.iv v16 c1_i32_12 k1_t3
  let c256_i32_39 : BitVec 32 := 256#32
  let v68 : BitVec 32 := Scalar.muli arg11 c256_i32_39
  let v69 : BitVec 32 := v68
  let v70 : Index := Scalar.indexCast v69
  ![0, 0, v70.toNat]
def k1_off9 (i : grid1.Coords) (k1_t3 : Fin (k1_t3_loop i).trips) : Fin 3 → Nat :=
  let c1_42 : Index := 1#32
  let c0_43 : Index := 0#32
  let c0_i32_8 : BitVec 32 := 0#32
  let arg1 : BitVec 32 := BitVec.ofNat 32 (i 1).val
  let v12 : BitVec 32 := Scalar.subi arg1 c0_i32_8
  let c1_i32_10 : BitVec 32 := 1#32
  let v14 : BitVec 32 := Scalar.divsi v12 c1_i32_10
  let v15 : BitVec 32 := Scalar.muli v14 c1_i32_10
  let v16 : BitVec 32 := Scalar.addi c0_i32_8 v15
  let c1_i32_12 : BitVec 32 := 1#32
  let arg11 : BitVec 32 := Scf.iv v16 c1_i32_12 k1_t3
  let c256_i32_39 : BitVec 32 := 256#32
  let v68 : BitVec 32 := Scalar.muli arg11 c256_i32_39
  let v69 : BitVec 32 := v68
  let v73 : Index := Scalar.indexCast v69
  ![1, 0, v73.toNat]
def k1_off10 (i : grid1.Coords) (k1_t3 : Fin (k1_t3_loop i).trips) : Fin 3 → Nat :=
  let c2_44 : Index := 2#32
  let c0_45 : Index := 0#32
  let c0_i32_8 : BitVec 32 := 0#32
  let arg1 : BitVec 32 := BitVec.ofNat 32 (i 1).val
  let v12 : BitVec 32 := Scalar.subi arg1 c0_i32_8
  let c1_i32_10 : BitVec 32 := 1#32
  let v14 : BitVec 32 := Scalar.divsi v12 c1_i32_10
  let v15 : BitVec 32 := Scalar.muli v14 c1_i32_10
  let v16 : BitVec 32 := Scalar.addi c0_i32_8 v15
  let c1_i32_12 : BitVec 32 := 1#32
  let arg11 : BitVec 32 := Scf.iv v16 c1_i32_12 k1_t3
  let c256_i32_39 : BitVec 32 := 256#32
  let v68 : BitVec 32 := Scalar.muli arg11 c256_i32_39
  let v69 : BitVec 32 := v68
  let v76 : Index := Scalar.indexCast v69
  ![2, 0, v76.toNat]
def k1_off11 (i : grid1.Coords) (k1_t3 : Fin (k1_t3_loop i).trips) : Fin 2 → Nat :=
  let c0_i32_8 : BitVec 32 := 0#32
  let arg1 : BitVec 32 := BitVec.ofNat 32 (i 1).val
  let v12 : BitVec 32 := Scalar.subi arg1 c0_i32_8
  let c1_i32_10 : BitVec 32 := 1#32
  let v14 : BitVec 32 := Scalar.divsi v12 c1_i32_10
  let v15 : BitVec 32 := Scalar.muli v14 c1_i32_10
  let v16 : BitVec 32 := Scalar.addi c0_i32_8 v15
  let c1_i32_12 : BitVec 32 := 1#32
  let arg11 : BitVec 32 := Scf.iv v16 c1_i32_12 k1_t3
  let c256_i32_39 : BitVec 32 := 256#32
  let v68 : BitVec 32 := Scalar.muli arg11 c256_i32_39
  let v69 : BitVec 32 := v68
  let v80 : Index := Scalar.indexCast v69
  let c0_48 : Index := 0#32
  ![v80.toNat, 0]
def k1_mult4 (i : grid1.Coords) : BitVec 32 :=
  let arg1 : BitVec 32 := BitVec.ofNat 32 (i 1).val
  let c256_i32 : BitVec 32 := 256#32
  let v47 : BitVec 32 := Scalar.muli arg1 c256_i32
  v47
def k1_off12 (i : grid1.Coords) : Fin 3 → Nat :=
  let c0_33 : Index := 0#32
  let c0_34 : Index := 0#32
  let arg1 : BitVec 32 := BitVec.ofNat 32 (i 1).val
  let c256_i32 : BitVec 32 := 256#32
  let v47 : BitVec 32 := Scalar.muli arg1 c256_i32
  let v48 : BitVec 32 := v47
  let v56 : Index := Scalar.indexCast v48
  ![0, 0, v56.toNat]
def k1_off13 (i : grid1.Coords) : Fin 3 → Nat :=
  let c1_35 : Index := 1#32
  let c0_36 : Index := 0#32
  let arg1 : BitVec 32 := BitVec.ofNat 32 (i 1).val
  let c256_i32 : BitVec 32 := 256#32
  let v47 : BitVec 32 := Scalar.muli arg1 c256_i32
  let v48 : BitVec 32 := v47
  let v60 : Index := Scalar.indexCast v48
  ![1, 0, v60.toNat]
def k1_off14 (i : grid1.Coords) : Fin 3 → Nat :=
  let c2_37 : Index := 2#32
  let c0_38 : Index := 0#32
  let arg1 : BitVec 32 := BitVec.ofNat 32 (i 1).val
  let c256_i32 : BitVec 32 := 256#32
  let v47 : BitVec 32 := Scalar.muli arg1 c256_i32
  let v48 : BitVec 32 := v47
  let v64 : Index := Scalar.indexCast v48
  ![2, 0, v64.toNat]
def cc1_transform_0 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg1 c2_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c0_i32_17 : BitVec 32 := 0#32
  ![v16.toNat, v26.toNat, v43.toNat]

def cc1_transform_2 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, arg1.toNat, c0_i32_4.toNat, c0_i32_5.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc1_transform_6 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage1_0 : Fin 2 → Memref sig .tc .vmem S1x768x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x768x128 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x4x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S5120x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x3x256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x768x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x768x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S5x1536x5120 : Shape := ⟨3, ![5, 1536, 5120]⟩
abbrev S5x1536x1280 : Shape := ⟨3, ![5, 1536, 1280]⟩
abbrev S5x40x256x4 : Shape := ⟨4, ![5, 40, 256, 4]⟩
abbrev S5120x5120 : Shape := ⟨2, ![5120, 5120]⟩
abbrev S_ : Shape := ⟨0, ![]⟩
abbrev S5 : Shape := ⟨1, ![5]⟩
abbrev S5x1x1 : Shape := ⟨3, ![5, 1, 1]⟩
abbrev S1280 : Shape := ⟨1, ![1280]⟩
abbrev S1x1x1280 : Shape := ⟨3, ![1, 1, 1280]⟩
abbrev S5x1536x1280x1 : Shape := ⟨4, ![5, 1536, 1280, 1]⟩
abbrev S5x1536x1280x3 : Shape := ⟨4, ![5, 1536, 1280, 3]⟩
abbrev S5x1536x1280x4 : Shape := ⟨4, ![5, 1536, 1280, 4]⟩
abbrev S5120x1 : Shape := ⟨2, ![5120, 1]⟩
abbrev S5x1536x1 : Shape := ⟨3, ![5, 1536, 1]⟩
abbrev S1x1 : Shape := ⟨2, ![1, 1]⟩
abbrev S1x1x1 : Shape := ⟨3, ![1, 1, 1]⟩

abbrev nBuf : Space → Nat
  | .hbm => 122
  | .vmem => 0
  | .smem => 0
  | _ => 0

abbrev bufTy : (tb : Table) → Fin (tcTables nBuf tb) → BufTy
  | .hbm, ⟨0, _⟩ => ⟨S5x1536x5120, .bf16⟩
  | .hbm, ⟨1, _⟩ => ⟨S5x1536x1280, .i8⟩
  | .hbm, ⟨2, _⟩ => ⟨S5x40x256x4, .i16⟩
  | .hbm, ⟨3, _⟩ => ⟨S5120x5120, .f32⟩
  | .hbm, ⟨4, _⟩ => ⟨S5x40x256x4, .i32⟩
  | .hbm, ⟨5, _⟩ => ⟨S_, .i32⟩
  | .hbm, ⟨6, _⟩ => ⟨S5x40x256x4, .i32⟩
  | .hbm, ⟨7, _⟩ => ⟨S5x40x256x4, .i32⟩
  | .hbm, ⟨8, _⟩ => ⟨S5x40x256x4, .f32⟩
  | .hbm, ⟨9, _⟩ => ⟨S5, .i32⟩
  | .hbm, ⟨10, _⟩ => ⟨S5x1x1, .i32⟩
  | .hbm, ⟨11, _⟩ => ⟨S1280, .i32⟩
  | .hbm, ⟨12, _⟩ => ⟨S_, .i32⟩
  | .hbm, ⟨13, _⟩ => ⟨S1280, .i32⟩
  | .hbm, ⟨14, _⟩ => ⟨S1280, .i32⟩
  | .hbm, ⟨15, _⟩ => ⟨S_, .i32⟩
  | .hbm, ⟨16, _⟩ => ⟨S_, .i32⟩
  | .hbm, ⟨17, _⟩ => ⟨S1280, .i32⟩
  | .hbm, ⟨18, _⟩ => ⟨S1280, .i32⟩
  | .hbm, ⟨19, _⟩ => ⟨S1280, .i32⟩
  | .hbm, ⟨20, _⟩ => ⟨S_, .i32⟩
  | .hbm, ⟨21, _⟩ => ⟨S1280, .i32⟩
  | .hbm, ⟨22, _⟩ => ⟨S1280, .i1⟩
  | .hbm, ⟨23, _⟩ => ⟨S1280, .i32⟩
  | .hbm, ⟨24, _⟩ => ⟨S1280, .i32⟩
  | .hbm, ⟨25, _⟩ => ⟨S_, .i32⟩
  | .hbm, ⟨26, _⟩ => ⟨S1280, .i32⟩
  | .hbm, ⟨27, _⟩ => ⟨S1280, .i1⟩
  | .hbm, ⟨28, _⟩ => ⟨S1280, .i1⟩
  | .hbm, ⟨29, _⟩ => ⟨S_, .i32⟩
  | .hbm, ⟨30, _⟩ => ⟨S1280, .i32⟩
  | .hbm, ⟨31, _⟩ => ⟨S1280, .i32⟩
  | .hbm, ⟨32, _⟩ => ⟨S1280, .i32⟩
  | .hbm, ⟨33, _⟩ => ⟨S1x1x1280, .i32⟩
  | .hbm, ⟨34, _⟩ => ⟨S5x1536x1280, .i32⟩
  | .hbm, ⟨35, _⟩ => ⟨S_, .i32⟩
  | .hbm, ⟨36, _⟩ => ⟨S5x1x1, .i32⟩
  | .hbm, ⟨37, _⟩ => ⟨S5x1x1, .i1⟩
  | .hbm, ⟨38, _⟩ => ⟨S_, .i32⟩
  | .hbm, ⟨39, _⟩ => ⟨S5x1x1, .i32⟩
  | .hbm, ⟨40, _⟩ => ⟨S5x1x1, .i32⟩
  | .hbm, ⟨41, _⟩ => ⟨S5x1x1, .i32⟩
  | .hbm, ⟨42, _⟩ => ⟨S_, .i32⟩
  | .hbm, ⟨43, _⟩ => ⟨S1x1x1280, .i32⟩
  | .hbm, ⟨44, _⟩ => ⟨S1x1x1280, .i1⟩
  | .hbm, ⟨45, _⟩ => ⟨S_, .i32⟩
  | .hbm, ⟨46, _⟩ => ⟨S1x1x1280, .i32⟩
  | .hbm, ⟨47, _⟩ => ⟨S1x1x1280, .i32⟩
  | .hbm, ⟨48, _⟩ => ⟨S1x1x1280, .i32⟩
  | .hbm, ⟨49, _⟩ => ⟨S_, .i32⟩
  | .hbm, ⟨50, _⟩ => ⟨S5x1536x1280, .i32⟩
  | .hbm, ⟨51, _⟩ => ⟨S5x1536x1280, .i1⟩
  | .hbm, ⟨52, _⟩ => ⟨S_, .i32⟩
  | .hbm, ⟨53, _⟩ => ⟨S5x1536x1280, .i32⟩
  | .hbm, ⟨54, _⟩ => ⟨S5x1536x1280, .i32⟩
  | .hbm, ⟨55, _⟩ => ⟨S5x1536x1280, .i32⟩
  | .hbm, ⟨56, _⟩ => ⟨S5x1536x1280, .i32⟩
  | .hbm, ⟨57, _⟩ => ⟨S5x1536x1280, .i32⟩
  | .hbm, ⟨58, _⟩ => ⟨S5x1536x1280x1, .i32⟩
  | .hbm, ⟨59, _⟩ => ⟨S5x1536x1280x1, .i32⟩
  | .hbm, ⟨60, _⟩ => ⟨S5x1536x1280x1, .i32⟩
  | .hbm, ⟨61, _⟩ => ⟨S5x1536x1280x3, .i32⟩
  | .hbm, ⟨62, _⟩ => ⟨S5x1536x1280x4, .f32⟩
  | .hbm, ⟨63, _⟩ => ⟨S5x1536x5120, .f32⟩
  | .hbm, ⟨64, _⟩ => ⟨S5x1536x5120, .bf16⟩
  | .hbm, ⟨65, _⟩ => ⟨S5x1536x5120, .f32⟩
  | .hbm, ⟨66, _⟩ => ⟨S5x1536x5120, .f32⟩
  | .hbm, ⟨67, _⟩ => ⟨S5x1536x5120, .f32⟩
  | .hbm, ⟨68, _⟩ => ⟨S_, .f32⟩
  | .hbm, ⟨69, _⟩ => ⟨S5x1536x5120, .f32⟩
  | .hbm, ⟨70, _⟩ => ⟨S_, .i32⟩
  | .hbm, ⟨71, _⟩ => ⟨S_, .i32⟩
  | .hbm, ⟨72, _⟩ => ⟨S5120x5120, .f32⟩
  | .hbm, ⟨73, _⟩ => ⟨S5x1536x5120, .f32⟩
  | .hbm, ⟨74, _⟩ => ⟨S_, .i32⟩
  | .hbm, ⟨75, _⟩ => ⟨S_, .i32⟩
  | .hbm, ⟨76, _⟩ => ⟨S5x1536x5120, .f32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S5120x1, .f32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S5x1536x1, .f32⟩
  | .hbm, ⟨98, _⟩ => ⟨S5x1536x1, .f32⟩
  | .hbm, ⟨99, _⟩ => ⟨S5x1536x1, .f32⟩
  | .hbm, ⟨100, _⟩ => ⟨S_, .i32⟩
  | .hbm, ⟨101, _⟩ => ⟨S_, .i1⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S1x1, .f32⟩
  | .hbm, ⟨108, _⟩ => ⟨S1x1x1, .f32⟩
  | .hbm, ⟨109, _⟩ => ⟨S5x1536x1, .f32⟩
  | .hbm, ⟨110, _⟩ => ⟨S5x1536x1, .f32⟩
  | .hbm, ⟨111, _⟩ => ⟨S_, .i32⟩
  | .hbm, ⟨112, _⟩ => ⟨S_, .i1⟩
  | .hbm, ⟨113, _⟩ => ⟨S_, .i32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S_, .i32⟩
  | .hbm, ⟨119, _⟩ => ⟨S5x1536x5120, .f32⟩
  | .hbm, ⟨120, _⟩ => ⟨S_, .i32⟩
  | .hbm, ⟨121, _⟩ => ⟨S_, .i32⟩
  | _, _ => ⟨S5x1536x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_2 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_4 : Ref sig .tc := ⟨.hbm, 42, rfl⟩
abbrev main_v17 : Ref sig .tc := ⟨.hbm, 43, rfl⟩
abbrev main_v18 : Ref sig .tc := ⟨.hbm, 44, rfl⟩
abbrev main_c_5 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_6 : Ref sig .tc := ⟨.hbm, 49, rfl⟩
abbrev main_v22 : Ref sig .tc := ⟨.hbm, 50, rfl⟩
abbrev main_v23 : Ref sig .tc := ⟨.hbm, 51, rfl⟩
abbrev main_c_7 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst : Ref sig .tc := ⟨.hbm, 68, rfl⟩
abbrev main_v39 : Ref sig .tc := ⟨.hbm, 69, rfl⟩
abbrev main_c_8 : Ref sig .tc := ⟨.hbm, 70, rfl⟩
abbrev main_c_9 : Ref sig .tc := ⟨.hbm, 71, rfl⟩
abbrev main_v40_0 : Ref sig .tc := ⟨.hbm, 72, rfl⟩
abbrev main_v40_1 : Ref sig .tc := ⟨.hbm, 73, rfl⟩
abbrev main_v40_2 : Ref sig .tc := ⟨.hbm, 74, rfl⟩
abbrev main_v40_3 : Ref sig .tc := ⟨.hbm, 75, rfl⟩
abbrev main_v40_4 : Ref sig .tc := ⟨.hbm, 76, rfl⟩
abbrev main_while0c_c_14 : Ref sig .tc := ⟨.hbm, 77, rfl⟩
abbrev main_while0c_v41 : Ref sig .tc := ⟨.hbm, 78, rfl⟩
abbrev main_while0b_c_14 : Ref sig .tc := ⟨.hbm, 79, rfl⟩
abbrev main_while0b_v41 : Ref sig .tc := ⟨.hbm, 80, rfl⟩
abbrev main_while0b_c_15 : Ref sig .tc := ⟨.hbm, 81, rfl⟩
abbrev main_while0b_v42 : Ref sig .tc := ⟨.hbm, 82, rfl⟩
abbrev main_while0b_v43 : Ref sig .tc := ⟨.hbm, 83, rfl⟩
abbrev main_while0b_c_16 : Ref sig .tc := ⟨.hbm, 84, rfl⟩
abbrev main_while0b_v44 : Ref sig .tc := ⟨.hbm, 85, rfl⟩
abbrev main_while0b_v45 : Ref sig .tc := ⟨.hbm, 86, rfl⟩
abbrev main_while0b_c_17 : Ref sig .tc := ⟨.hbm, 87, rfl⟩
abbrev main_while0b_v46 : Ref sig .tc := ⟨.hbm, 88, rfl⟩
abbrev main_while0b_c_18 : Ref sig .tc := ⟨.hbm, 89, rfl⟩
abbrev main_while0b_v47 : Ref sig .tc := ⟨.hbm, 90, rfl⟩
abbrev main_while0b_v48 : Ref sig .tc := ⟨.hbm, 91, rfl⟩
abbrev main_while0b_c_19 : Ref sig .tc := ⟨.hbm, 92, rfl⟩
abbrev main_while0b_v49 : Ref sig .tc := ⟨.hbm, 93, rfl⟩
abbrev main_while0b_v50 : Ref sig .tc := ⟨.hbm, 94, rfl⟩
abbrev main_while0b_c_20 : Ref sig .tc := ⟨.hbm, 95, rfl⟩
abbrev main_while0b_c_21 : Ref sig .tc := ⟨.hbm, 96, rfl⟩
abbrev main_while0b_v51 : Ref sig .tc := ⟨.hbm, 97, rfl⟩
abbrev main_while0b_v52 : Ref sig .tc := ⟨.hbm, 98, rfl⟩
abbrev main_while0b_v53 : Ref sig .tc := ⟨.hbm, 99, rfl⟩
abbrev main_while0b_c_22 : Ref sig .tc := ⟨.hbm, 100, rfl⟩
abbrev main_while0b_v54 : Ref sig .tc := ⟨.hbm, 101, rfl⟩
abbrev main_while0b_v55 : Ref sig .tc := ⟨.hbm, 102, rfl⟩
abbrev main_while0b_c_23 : Ref sig .tc := ⟨.hbm, 103, rfl⟩
abbrev main_while0b_v56 : Ref sig .tc := ⟨.hbm, 104, rfl⟩
abbrev main_while0b_v57 : Ref sig .tc := ⟨.hbm, 105, rfl⟩
abbrev main_while0b_c_24 : Ref sig .tc := ⟨.hbm, 106, rfl⟩
abbrev main_while0b_v58 : Ref sig .tc := ⟨.hbm, 107, rfl⟩
abbrev main_while0b_v59 : Ref sig .tc := ⟨.hbm, 108, rfl⟩
abbrev main_while0b_v60 : Ref sig .tc := ⟨.hbm, 109, rfl⟩
abbrev main_while0b_v61 : Ref sig .tc := ⟨.hbm, 110, rfl⟩
abbrev main_while0b_c_25 : Ref sig .tc := ⟨.hbm, 111, rfl⟩
abbrev main_while0b_v62 : Ref sig .tc := ⟨.hbm, 112, rfl⟩
abbrev main_while0b_v63 : Ref sig .tc := ⟨.hbm, 113, rfl⟩
abbrev main_while0b_c_26 : Ref sig .tc := ⟨.hbm, 114, rfl⟩
abbrev main_while0b_v64 : Ref sig .tc := ⟨.hbm, 115, rfl⟩
abbrev main_while0b_v65 : Ref sig .tc := ⟨.hbm, 116, rfl⟩
abbrev main_while0b_c_27 : Ref sig .tc := ⟨.hbm, 117, rfl⟩
abbrev main_while0b_c_28 : Ref sig .tc := ⟨.hbm, 118, rfl⟩
abbrev main_while0b_v66 : Ref sig .tc := ⟨.hbm, 119, rfl⟩
abbrev main_while0b_c_29 : Ref sig .tc := ⟨.hbm, 120, rfl⟩
abbrev main_while0b_v67 : Ref sig .tc := ⟨.hbm, 121, rfl⟩

abbrev nD : Nat := 1
abbrev τ : Topo := Topo.v7x

variable {F : FTy → Type} [FloatOps F]

abbrev main_while0_count : Scf.Loop 32 := ⟨0#32, 5120#32, 1#32⟩
-- ==== Proof.InvProg.lean ====
module

public import Idealize.ShloMosaic.Lib.Tactic
public import proofs.«01_k».proof.Proof.Gen.KernelIdeal.Skeleton

@[expose] public section

noncomputable section

/-! The body of the first call, written once for a step number `k` instead of 128 times, and the
    theorem that the printed body is that program. -/

namespace Cert.KernelIdeal.Inv

open Idealize.ShloMosaic Idealize.SL.Sem
open Cert.KernelIdeal.Gen

variable {F : FTy → Type} [FloatOps F]

/-- How many rows step `k` updates: `k` rounded down to a multiple of eight, and eight more. -/
abbrev rows (k : ℕ) : ℕ := (k / 8) * 8 + 8

theorem rows_le {k : ℕ} (hk : k < 128) : rows k ≤ 128 := by unfold rows; omega

abbrev R2 (n : ℕ) : Shape := ⟨2, ![n, 128]⟩
abbrev C2 (n : ℕ) : Shape := ⟨2, ![n, 1]⟩
abbrev R3 (n : ℕ) : Shape := ⟨3, ![1, n, 128]⟩

theorem inb_row {h k : ℕ} (hh : h < 2) (hk : k < 128) :
    ∀ a, (![h, k, 0] : Fin 3 → Nat) a + S1x1x128.size a ≤ S2x128x128.size a := by
  intro a; fin_cases a <;> simp <;> omega

theorem inb_blk {h n : ℕ} (hh : h < 2) (hn : n ≤ 128) :
    ∀ a, (![h, 0, 0] : Fin 3 → Nat) a + (R3 n).size a ≤ S2x128x128.size a := by
  intro a; fin_cases a <;> simp <;> omega

theorem slices_piv {k : ℕ} (hk : k < 128) : S128x128.Slices ![k, k] S1x1 := by
  refine ⟨rfl, fun a => ?_⟩; fin_cases a <;> simp <;> omega

theorem slices_col {k n : ℕ} (hk : k < 128) (hn : n ≤ 128) : S128x128.Slices ![0, k] (C2 n) := by
  refine ⟨rfl, fun a => ?_⟩; fin_cases a <;> simp <;> omega

theorem bc_col (n : ℕ) : (C2 n).Broadcasts (R2 n) := by
  refine ⟨le_rfl, fun a => ?_⟩
  fin_cases a
  · exact .inr fun h => by simp
  · exact .inl (by simp)

theorem bc_row (n : ℕ) : S1x128.Broadcasts (R2 n) := by
  refine ⟨le_rfl, fun a => ?_⟩
  fin_cases a
  · exact .inl (by simp)
  · exact .inr fun h => by simp

theorem iotas_blk (n : ℕ) : (R2 n).Iotas .tc 32 [0] := by
  refine ⟨by simp, fun _ => ⟨.inr rfl, le_rfl⟩, fun h => absurd rfl h⟩

theorem numel_R2 (n : ℕ) : (R2 n).numel = n * 128 := by simp [Shape.numel, Fin.prod_univ_succ]
theorem numel_R3 (n : ℕ) : (R3 n).numel = n * 128 := by simp [Shape.numel, Fin.prod_univ_succ]

theorem sc23 (n : ℕ) : (R2 n).ShapeCasts (R3 n) := by rw [Shape.ShapeCasts, numel_R2, numel_R3]
theorem sc32 (n : ℕ) : (R3 n).ShapeCasts (R2 n) := by rw [Shape.ShapeCasts, numel_R2, numel_R3]

theorem pos_R3 (k : ℕ) : 0 < (R3 (rows k)).numel := by rw [numel_R3]; unfold rows; omega

/-- The pivot row of a step: the row over the diagonal entry. -/
def pivot {k : ℕ} (hk : k < 128) (u : Vec F S128x128 .f32) (x : Vec F S1x1x128 .f32) : FVec F S1x128 .f32 :=
  divf (shapeCast S1x128 x shapeCasts_S1x1x128_S1x128)
    (broadcastTo S1x128 (extractStridedSlice S1x1 ![k, k] u (slices_piv hk)) broadcasts_S1x1_S1x128)

/-- What the step stores on the pivot row. -/
def pivotPay {k : ℕ} (hk : k < 128) (u : Vec F S128x128 .f32) (x : Vec F S1x1x128 .f32) : FVec F S1x1x128 .f32 :=
  shapeCast S1x1x128 (pivot hk u x) shapeCasts_S1x128_S1x1x128

/-- What the step stores on the rows from the first to the pivot's group of eight. -/
def updPay {k : ℕ} (hk : k < 128) (u : Vec F S128x128 .f32) (x : Vec F S1x1x128 .f32)
    (r : Vec F (R3 (rows k)) .f32) : FVec F (R3 (rows k)) .f32 :=
  shapeCast (R3 (rows k))
    (subf (shapeCast (R2 (rows k)) r (sc32 _))
      (select (cmpi .slt (iota .tc (R2 (rows k)) 32 [0] (iotas_blk _)) (broadcast (R2 (rows k)) (BitVec.ofNat 32 k)))
        (mulf (broadcastTo (R2 (rows k)) (extractStridedSlice (C2 (rows k)) ![0, k] u (slices_col hk (rows_le hk))) (bc_col _))
          (broadcastTo (R2 (rows k)) (pivot hk u x) (bc_row _)))
        (broadcast (R2 (rows k)) (Scalar.ofBits .f32 0x00000000#32))))
    (sc23 _)

section
variable (i : grid0.Coords) (arg1 : Memref sig .tc .vmem S256x256 .f32) (harg1 : arg1.IsWhole)
  (arg2 : Memref sig .tc .vmem S1x3x256x256 .bf16) (harg2 : arg2.IsWhole)
  (arg3 : Memref sig .tc .vmem S2x128x128 .f32) (harg3 : arg3.IsWhole)

abbrev M := Prog (TpuEff nD τ sig (Elt F) Λ₀ .tc)

/-- The division of a step, and what follows it. -/
def divP {h k : ℕ} (hh : h < 2) (hk : k < 128) (u : Vec F S128x128 .f32)
    (K : Vec F S1x1x128 .f32 → M (F := F) PUnit) : M (F := F) PUnit :=
  .op (.load arg3 (Rect.unit (s := S2x128x128) ![h, k, 0] S1x1x128.size (inb_row hh hk)).toLoadRect (View.loadsAt_vmem h_S1x1x128)) fun x =>
  .op (.load arg3 (Rect.unit (s := S2x128x128) ![h, k, 0] S1x1x128.size (inb_row hh hk)).toLoadRect (View.loadsAt_vmem h_S1x1x128)) fun _ =>
  .op (.store arg3 (Rect.unit (s := S2x128x128) ![h, k, 0] S1x1x128.size (inb_row hh hk)) (pivotPay hk u x) Finset.univ (View.stores_vmem_bits_univ h_S1x1x128 rfl) (.inl rfl)) fun _ =>
  K x

/-- The update of a step, and what follows it. -/
def updP {h k : ℕ} (hh : h < 2) (hk : k < 128) (u : Vec F S128x128 .f32) (x : Vec F S1x1x128 .f32)
    (K : M (F := F) PUnit) : M (F := F) PUnit :=
  .op (.load arg3 (Rect.unit (s := S2x128x128) ![h, 0, 0] (R3 (rows k)).size (inb_blk hh (rows_le hk))).toLoadRect (View.loadsAt_vmem (pos_R3 k))) fun r =>
  .op (.load arg3 (Rect.unit (s := S2x128x128) ![h, 0, 0] (R3 (rows k)).size (inb_blk hh (rows_le hk))).toLoadRect (View.loadsAt_vmem (pos_R3 k))) fun _ =>
  .op (.store arg3 (Rect.unit (s := S2x128x128) ![h, 0, 0] (R3 (rows k)).size (inb_blk hh (rows_le hk))) (updPay hk u x r) Finset.univ (View.stores_vmem_bits_univ (pos_R3 k) rfl) (.inl rfl)) fun _ =>
  K

/-- The steps from `k` down to zero, both halves in each, and what follows them. -/
def stepsP (u0 u1 : Vec F S128x128 .f32) (K : M (F := F) PUnit) : (k : ℕ) → k < 128 → M (F := F) PUnit
  | 0, hk => divP arg3 (h := 0) (by decide) hk u0 fun _ => divP arg3 (h := 1) (by decide) hk u1 fun _ => K
  | k + 1, hk =>
    divP arg3 (h := 0) (by decide) hk u0 fun x => updP arg3 (h := 0) (by decide) hk u0 x <|
    divP arg3 (h := 1) (by decide) hk u1 fun x => updP arg3 (h := 1) (by decide) hk u1 x <|
    stepsP u0 u1 K k (by omega)

/-- The block's inverse from the halves' inverses: three pieces of each half of the rows, stored. -/
def finP : M (F := F) PUnit :=
  .op (.load arg3 (Rect.unit (s := S2x128x128) ![0, 0, 0] S1x128x128.size inb_S2x128x128_S1x128x128_0_0_0).toLoadRect (View.loadsAt_vmem h_S1x128x128)) fun a =>
  .op (.load arg3 (Rect.unit (s := S2x128x128) ![1, 0, 0] S1x128x128.size inb_S2x128x128_S1x128x128_1_0_0).toLoadRect (View.loadsAt_vmem h_S1x128x128)) fun c =>
  .op (.load arg1 (Rect.unit (s := S256x256) ![0, 128] S128x128.size inb_S256x256_S128x128_0_128).toLoadRect (View.loadsAt_vmem h_S128x128)) fun b =>
  .op (.load arg2 (Rect.unit (s := S1x3x256x256) ![0, 0, 0, 0] S1x1x128x256.size inb_S1x3x256x256_S1x1x128x256_0_0_0_0).toLoadRect (View.loadsAt_vmem h_S1x1x128x256)) fun _ =>
  .op (.store arg2 (Rect.unit (s := S1x3x256x256) ![0, 0, 0, 0] S1x1x128x256.size inb_S1x3x256x256_S1x1x128x256_0_0_0_0) (k0_pay971 (k0_pay950 a) (k0_pay953 a b) (k0_pay955 a b) (k0_pay956 a b) (k0_pay957 c) (k0_pay959 c) (k0_pay960 c)) Finset.univ (View.stores_vmem h_S1x1x128x256 (harg2.storeExact_slice rfl _ packedbf16_S1x3x256x256_S1x1x128x256_0_0_0_0) (fun _ => rfl)) (.inl rfl)) fun _ =>
  .op (.load arg2 (Rect.unit (s := S1x3x256x256) ![0, 0, 128, 0] S1x1x128x256.size inb_S1x3x256x256_S1x1x128x256_0_0_128_0).toLoadRect (View.loadsAt_vmem h_S1x1x128x256)) fun _ =>
  .op (.store arg2 (Rect.unit (s := S1x3x256x256) ![0, 0, 128, 0] S1x1x128x256.size inb_S1x3x256x256_S1x1x128x256_0_0_128_0) (k0_pay972 (k0_pay951 c)) Finset.univ (View.stores_vmem h_S1x1x128x256 (harg2.storeExact_slice rfl _ packedbf16_S1x3x256x256_S1x1x128x256_0_0_128_0) (fun _ => rfl)) (.inl rfl)) fun _ =>
  .op (.load arg2 (Rect.unit (s := S1x3x256x256) ![0, 1, 0, 0] S1x1x128x256.size inb_S1x3x256x256_S1x1x128x256_0_1_0_0).toLoadRect (View.loadsAt_vmem h_S1x1x128x256)) fun _ =>
  .op (.store arg2 (Rect.unit (s := S1x3x256x256) ![0, 1, 0, 0] S1x1x128x256.size inb_S1x3x256x256_S1x1x128x256_0_1_0_0) (k0_pay973 (k0_pay964 (k0_pay950 a) (k0_pay953 a b) (k0_pay955 a b) (k0_pay956 a b) (k0_pay957 c) (k0_pay959 c) (k0_pay960 c))) Finset.univ (View.stores_vmem h_S1x1x128x256 (harg2.storeExact_slice rfl _ packedbf16_S1x3x256x256_S1x1x128x256_0_1_0_0) (fun _ => rfl)) (.inl rfl)) fun _ =>
  .op (.load arg2 (Rect.unit (s := S1x3x256x256) ![0, 1, 128, 0] S1x1x128x256.size inb_S1x3x256x256_S1x1x128x256_0_1_128_0).toLoadRect (View.loadsAt_vmem h_S1x1x128x256)) fun _ =>
  .op (.store arg2 (Rect.unit (s := S1x3x256x256) ![0, 1, 128, 0] S1x1x128x256.size inb_S1x3x256x256_S1x1x128x256_0_1_128_0) (k0_pay974 (k0_pay969 (k0_pay951 c))) Finset.univ (View.stores_vmem h_S1x1x128x256 (harg2.storeExact_slice rfl _ packedbf16_S1x3x256x256_S1x1x128x256_0_1_128_0) (fun _ => rfl)) (.inl rfl)) fun _ =>
  .op (.load arg2 (Rect.unit (s := S1x3x256x256) ![0, 2, 0, 0] S1x1x128x256.size inb_S1x3x256x256_S1x1x128x256_0_2_0_0).toLoadRect (View.loadsAt_vmem h_S1x1x128x256)) fun _ =>
  .op (.store arg2 (Rect.unit (s := S1x3x256x256) ![0, 2, 0, 0] S1x1x128x256.size inb_S1x3x256x256_S1x1x128x256_0_2_0_0) (k0_pay1 (k0_pay965 (k0_pay950 a) (k0_pay953 a b) (k0_pay955 a b) (k0_pay956 a b) (k0_pay957 c) (k0_pay959 c) (k0_pay960 c))) Finset.univ (View.stores_vmem h_S1x1x128x256 (harg2.storeExact_slice rfl _ packedbf16_S1x3x256x256_S1x1x128x256_0_2_0_0) (fun _ => rfl)) (.inl rfl)) fun _ =>
  .op (.load arg2 (Rect.unit (s := S1x3x256x256) ![0, 2, 128, 0] S1x1x128x256.size inb_S1x3x256x256_S1x1x128x256_0_2_128_0).toLoadRect (View.loadsAt_vmem h_S1x1x128x256)) fun _ =>
  .op (.store arg2 (Rect.unit (s := S1x3x256x256) ![0, 2, 128, 0] S1x1x128x256.size inb_S1x3x256x256_S1x1x128x256_0_2_128_0) (k0_pay2 (k0_pay970 (k0_pay951 c))) Finset.univ (View.stores_vmem h_S1x1x128x256 (harg2.storeExact_slice rfl _ packedbf16_S1x3x256x256_S1x1x128x256_0_2_128_0) (fun _ => rfl)) (.inl rfl)) fun _ =>
  .ret ⟨⟩

/-- The identity matrix into both halves of the scratch, and what follows. -/
def initP (K : Vec F S128x128 .f32 → Vec F S128x128 .f32 → M (F := F) PUnit) : M (F := F) PUnit :=
  .op (.load arg1 (Rect.unit (s := S256x256) ![0, 0] S128x128.size inb_S256x256_S128x128_0_0).toLoadRect (View.loadsAt_vmem h_S128x128)) fun u0 =>
  .op (.load arg1 (Rect.unit (s := S256x256) ![128, 128] S128x128.size inb_S256x256_S128x128_128_128).toLoadRect (View.loadsAt_vmem h_S128x128)) fun u1 =>
  .op (.load arg3 (Rect.unit (s := S2x128x128) ![0, 0, 0] S1x128x128.size inb_S2x128x128_S1x128x128_0_0_0).toLoadRect (View.loadsAt_vmem h_S1x128x128)) fun _ =>
  .op (.store arg3 (Rect.unit (s := S2x128x128) ![0, 0, 0] S1x128x128.size inb_S2x128x128_S1x128x128_0_0_0) (k0_pay4 (F := F)) Finset.univ (View.stores_vmem_bits_univ h_S1x128x128 rfl) (.inl rfl)) fun _ =>
  .op (.load arg3 (Rect.unit (s := S2x128x128) ![1, 0, 0] S1x128x128.size inb_S2x128x128_S1x128x128_1_0_0).toLoadRect (View.loadsAt_vmem h_S1x128x128)) fun _ =>
  .op (.store arg3 (Rect.unit (s := S2x128x128) ![1, 0, 0] S1x128x128.size inb_S2x128x128_S1x128x128_1_0_0) (k0_pay5 (F := F)) Finset.univ (View.stores_vmem_bits_univ h_S1x128x128 rfl) (.inl rfl)) fun _ =>
  K u0 u1

/-- The whole body. -/
def invP : M (F := F) PUnit :=
  initP arg1 arg3 fun u0 u1 => stepsP arg3 u0 u1 (finP arg1 arg2 harg2 arg3) 127 (by decide)

set_option maxRecDepth 1000000 in
/-- The printed body is this program. -/
theorem body_eq : cc0_diag_inverse (F := F) i arg1 harg1 arg2 harg2 arg3 harg3 = invP arg1 arg2 harg2 arg3 := by
  sl_kernel_rfl

end

end Cert.KernelIdeal.Inv
-- ==== Proof.InvRun.lean ====
module

public import proofs.«01_k».proof.Proof.InvProg
public import Idealize.ShloMosaic.Lib.Pipeline.FrameBody
public import Idealize.ShloMosaic.Lib.Ring
public import Idealize.ShloMosaic.Lib.VecWindow

@[expose] public section

set_option maxRecDepth 16384

noncomputable section

namespace Cert.KernelIdeal.Inv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The scratch after a division step. -/
def divV {h k : ℕ} (hh : h < 2) (hk : k < 128) (u : Vec F S128x128 .f32) (xs : Vec F S2x128x128 .f32) : Vec F S2x128x128 .f32 :=
  VecWindow.put xs ![h, k, 0] S1x1x128.size (pivotPay hk u (VecWindow.window xs ![h, k, 0] S1x1x128.size (inb_row hh hk)))

/-- The scratch after an update step, `x` the row read before the division. -/
def updV {h k : ℕ} (hh : h < 2) (hk : k < 128) (u : Vec F S128x128 .f32) (x : Vec F S1x1x128 .f32) (xs : Vec F S2x128x128 .f32) : Vec F S2x128x128 .f32 :=
  VecWindow.put xs ![h, 0, 0] (R3 (rows k)).size (updPay hk u x (VecWindow.window xs ![h, 0, 0] (R3 (rows k)).size (inb_blk hh (rows_le hk))))

/-- The row a division step reads. -/
def rowV {h k : ℕ} (hh : h < 2) (hk : k < 128) (xs : Vec F S2x128x128 .f32) : Vec F S1x1x128 .f32 :=
  VecWindow.window xs ![h, k, 0] S1x1x128.size (inb_row hh hk)

/-- Step `k` of half `h`, for `k` not zero. -/
def stepV {h k : ℕ} (hh : h < 2) (hk : k < 128) (u : Vec F S128x128 .f32) (xs : Vec F S2x128x128 .f32) : Vec F S2x128x128 .f32 :=
  updV hh hk u (rowV hh hk xs) (divV hh hk u xs)

/-- The steps from `k` down to zero. -/
def stepsV (u0 u1 : Vec F S128x128 .f32) : (k : ℕ) → k < 128 → Vec F S2x128x128 .f32 → Vec F S2x128x128 .f32
  | 0, hk, xs => divV (h := 1) (by decide) hk u1 (divV (h := 0) (by decide) hk u0 xs)
  | k + 1, hk, xs => stepsV u0 u1 k (by omega) (stepV (h := 1) (by decide) hk u1 (stepV (h := 0) (by decide) hk u0 xs))

/-- The scratch before the steps. -/
def initV (xs : Vec F S2x128x128 .f32) : Vec F S2x128x128 .f32 :=
  VecWindow.put (VecWindow.put xs ![0, 0, 0] S1x128x128.size (k0_pay4 (F := F))) ![1, 0, 0] S1x128x128.size (k0_pay5 (F := F))

theorem div_wp (c : Dev nD) (arg3 : Memref sig .tc .vmem S2x128x128 .f32) (harg3 : arg3.IsWhole)
    {h k : ℕ} (hh : h < 2) (hk : k < 128) (u : Vec F S128x128 .f32) (xs : Vec F S2x128x128 .f32)
    (E : Set ℕ) (Q : PUnit → sProp 𝕄) (K : Vec F S1x1x128 .f32 → M (F := F) PUnit) :
    iprop(owns (c : Thread nD τ) arg3 fullShare xs
      ∗ (owns (c : Thread nD τ) arg3 fullShare (divV hh hk u xs)
          -∗ wp frame (wpE (defs₀ (F := F)) Variants.none c none) E (K (rowV hh hk xs)) Q))
    ⊢ wp frame (wpE (defs₀ (F := F)) Variants.none c none) E (divP arg3 hh hk u K) Q := by
  unfold divP owns
  iintro ⟨⟨%f0, %hf0, H0⟩, Hk⟩
  obtain rfl := harg3.eq_unread hf0
  sl_exec
  have e : arg3.view.readAt (Elt F) (Rect.unit (s := S2x128x128) ![h, k, 0] S1x1x128.size (inb_row hh hk)).toLoadRect (harg3.unread xs) = rowV hh hk xs :=
    (View.readAt_unit _ _ _ rfl (inb_row hh hk)).trans (by rw [harg3.read_unread]; rfl)
  rw [e]
  iapply Hk
  iexists _; isplitr; swap; · iexact H0
  ipureintro
  rw [View.read_writes_cons_put _ _ _ _ _ rfl, View.writes_nil, harg3.read_unread]; rfl

theorem upd_wp (c : Dev nD) (arg3 : Memref sig .tc .vmem S2x128x128 .f32) (harg3 : arg3.IsWhole)
    {h k : ℕ} (hh : h < 2) (hk : k < 128) (u : Vec F S128x128 .f32) (x : Vec F S1x1x128 .f32) (xs : Vec F S2x128x128 .f32)
    (E : Set ℕ) (Q : PUnit → sProp 𝕄) (K : M (F := F) PUnit) :
    iprop(owns (c : Thread nD τ) arg3 fullShare xs
      ∗ (owns (c : Thread nD τ) arg3 fullShare (updV hh hk u x xs)
          -∗ wp frame (wpE (defs₀ (F := F)) Variants.none c none) E K Q))
    ⊢ wp frame (wpE (defs₀ (F := F)) Variants.none c none) E (updP arg3 hh hk u x K) Q := by
  unfold updP owns
  iintro ⟨⟨%f0, %hf0, H0⟩, Hk⟩
  obtain rfl := harg3.eq_unread hf0
  sl_exec
  iapply Hk
  iexists _; isplitr; swap; · iexact H0
  ipureintro
  rw [View.read_writes_cons_put _ _ _ _ _ rfl, View.writes_nil, harg3.read_unread,
    View.readAt_unit _ _ _ rfl (inb_blk hh (rows_le hk)), harg3.read_unread]; rfl

theorem steps_wp (c : Dev nD) (arg3 : Memref sig .tc .vmem S2x128x128 .f32) (harg3 : arg3.IsWhole)
    (u0 u1 : Vec F S128x128 .f32) (E : Set ℕ) (Q : PUnit → sProp 𝕄) (K : M (F := F) PUnit) :
    ∀ (k : ℕ) (hk : k < 128) (xs : Vec F S2x128x128 .f32),
    iprop(owns (c : Thread nD τ) arg3 fullShare xs
      ∗ (owns (c : Thread nD τ) arg3 fullShare (stepsV u0 u1 k hk xs)
          -∗ wp frame (wpE (defs₀ (F := F)) Variants.none c none) E K Q))
    ⊢ wp frame (wpE (defs₀ (F := F)) Variants.none c none) E (stepsP arg3 u0 u1 K k hk) Q
  | 0, hk, xs => by
    unfold stepsP stepsV
    iintro ⟨H0, Hk⟩
    iapply (div_wp c arg3 harg3 _ hk u0 xs E Q _)
    isplitl [H0]; · iexact H0
    iintro H0
    iapply (div_wp c arg3 harg3 _ hk u1 _ E Q _)
    isplitl [H0]; · iexact H0
    iexact Hk
  | k + 1, hk, xs => by
    unfold stepsP stepsV
    iintro ⟨H0, Hk⟩
    iapply (div_wp c arg3 harg3 _ hk u0 xs E Q _)
    isplitl [H0]; · iexact H0
    iintro H0
    iapply (upd_wp c arg3 harg3 _ hk u0 _ _ E Q _)
    isplitl [H0]; · iexact H0
    iintro H0
    iapply (div_wp c arg3 harg3 _ hk u1 _ E Q _)
    isplitl [H0]; · iexact H0
    iintro H0
    iapply (upd_wp c arg3 harg3 _ hk u1 _ _ E Q _)
    isplitl [H0]; · iexact H0
    iintro H0
    iapply (steps_wp c arg3 harg3 u0 u1 E Q K k _ _)
    isplitl [H0]; · iexact H0
    iexact Hk

/-- The six blocks the body stores, last first, from the two halves' inverses and the block between. -/
def outL (a c : Vec F S1x128x128 .f32) (b : Vec F S128x128 .f32) : List (View.Piece (Elt F) S1x3x256x256 .bf16) :=
  [⟨Rect.unit (s := S1x3x256x256) ![0, 2, 128, 0] S1x1x128x256.size inb_S1x3x256x256_S1x1x128x256_0_2_128_0, k0_pay2 (k0_pay970 (k0_pay951 c))⟩,
   ⟨Rect.unit (s := S1x3x256x256) ![0, 2, 0, 0] S1x1x128x256.size inb_S1x3x256x256_S1x1x128x256_0_2_0_0, k0_pay1 (k0_pay965 (k0_pay950 a) (k0_pay953 a b) (k0_pay955 a b) (k0_pay956 a b) (k0_pay957 c) (k0_pay959 c) (k0_pay960 c))⟩,
   ⟨Rect.unit (s := S1x3x256x256) ![0, 1, 128, 0] S1x1x128x256.size inb_S1x3x256x256_S1x1x128x256_0_1_128_0, k0_pay974 (k0_pay969 (k0_pay951 c))⟩,
   ⟨Rect.unit (s := S1x3x256x256) ![0, 1, 0, 0] S1x1x128x256.size inb_S1x3x256x256_S1x1x128x256_0_1_0_0, k0_pay973 (k0_pay964 (k0_pay950 a) (k0_pay953 a b) (k0_pay955 a b) (k0_pay956 a b) (k0_pay957 c) (k0_pay959 c) (k0_pay960 c))⟩,
   ⟨Rect.unit (s := S1x3x256x256) ![0, 0, 128, 0] S1x1x128x256.size inb_S1x3x256x256_S1x1x128x256_0_0_128_0, k0_pay972 (k0_pay951 c)⟩,
   ⟨Rect.unit (s := S1x3x256x256) ![0, 0, 0, 0] S1x1x128x256.size inb_S1x3x256x256_S1x1x128x256_0_0_0_0, k0_pay971 (k0_pay950 a) (k0_pay953 a b) (k0_pay955 a b) (k0_pay956 a b) (k0_pay957 c) (k0_pay959 c) (k0_pay960 c)⟩]

theorem outL_cover (a c : Vec F S1x128x128 .f32) (b : Vec F S128x128 .f32) (y : S1x3x256x256.Idx) : ∃ p ∈ outL a c b, y ∈ p.1.set :=
  View.cover_of_tiledL (outL a c b) S1x1x128x256.size (by sl_kernel_rfl) y

/-- What the last part stores, from the scratch and the block. -/
def finV (x0 : Vec F S256x256 .f32) (xs : Vec F S2x128x128 .f32) : Vec F S1x3x256x256 .bf16 :=
  View.canon (outL (VecWindow.window xs ![0, 0, 0] S1x128x128.size inb_S2x128x128_S1x128x128_0_0_0)
    (VecWindow.window xs ![1, 0, 0] S1x128x128.size inb_S2x128x128_S1x128x128_1_0_0)
    (VecWindow.window x0 ![0, 128] S128x128.size inb_S256x256_S128x128_0_128))

set_option maxHeartbeats 1000000 in
theorem fin_wp (c : Dev nD) (arg1 : Memref sig .tc .vmem S256x256 .f32) (harg1 : arg1.IsWhole)
    (arg2 : Memref sig .tc .vmem S1x3x256x256 .bf16) (harg2 : arg2.IsWhole)
    (arg3 : Memref sig .tc .vmem S2x128x128 .f32) (harg3 : arg3.IsWhole)
    (x0 : Vec F S256x256 .f32) (xs : Vec F S2x128x128 .f32) (E : Set ℕ) (Q : PUnit → sProp 𝕄) :
    iprop(owns (c : Thread nD τ) arg1 fullShare x0 ∗ (∃ d, owns (c : Thread nD τ) arg2 fullShare d) ∗ owns (c : Thread nD τ) arg3 fullShare xs
      ∗ (iprop(owns (c : Thread nD τ) arg1 fullShare x0 ∗ owns (c : Thread nD τ) arg2 fullShare (finV x0 xs) ∗ owns (c : Thread nD τ) arg3 fullShare xs) -∗ Q ⟨⟩))
    ⊢ wp frame (wpE (defs₀ (F := F)) Variants.none c none) E (finP arg1 arg2 harg2 arg3) Q := by
  unfold finP owns
  iintro ⟨⟨%f0, %hf0, H0⟩, ⟨%d1, %f1, -, H1⟩, ⟨%fs, %hfs, HS⟩, Hk⟩
  obtain rfl := harg1.eq_unread hf0
  obtain rfl := harg3.eq_unread hfs
  sl_exec
  sl_step
  iapply Hk
  isplitl [H0]
  · iexists _; isplitr; · ipureintro; exact harg1.read_unread _
    iexact H0
  isplitl [H1]
  · iexists _; isplitr; swap; · iexact H1
    ipureintro
    have ea : arg3.view.readAt (Elt F) (Rect.unit (s := S2x128x128) ![0, 0, 0] S1x128x128.size inb_S2x128x128_S1x128x128_0_0_0).toLoadRect (harg3.unread xs) = VecWindow.window xs ![0, 0, 0] S1x128x128.size inb_S2x128x128_S1x128x128_0_0_0 :=
      (View.readAt_unit _ _ _ rfl inb_S2x128x128_S1x128x128_0_0_0).trans (by rw [harg3.read_unread])
    have ec : arg3.view.readAt (Elt F) (Rect.unit (s := S2x128x128) ![1, 0, 0] S1x128x128.size inb_S2x128x128_S1x128x128_1_0_0).toLoadRect (harg3.unread xs) = VecWindow.window xs ![1, 0, 0] S1x128x128.size inb_S2x128x128_S1x128x128_1_0_0 :=
      (View.readAt_unit _ _ _ rfl inb_S2x128x128_S1x128x128_1_0_0).trans (by rw [harg3.read_unread])
    have eb : arg1.view.readAt (Elt F) (Rect.unit (s := S256x256) ![0, 128] S128x128.size inb_S256x256_S128x128_0_128).toLoadRect (harg1.unread x0) = VecWindow.window x0 ![0, 128] S128x128.size inb_S256x256_S128x128_0_128 :=
      (View.readAt_unit _ _ _ rfl inb_S256x256_S128x128_0_128).trans (by rw [harg1.read_unread])
    rw [ea, ec, eb]
    exact View.read_writes_eq_canon _ _ (outL _ _ _) (outL_cover _ _ _)
  iexists _; isplitr; · ipureintro; exact harg3.read_unread _
  iexact HS

/-- What the body stores, from the block and what the scratch held. -/
def invV (x0 : Vec F S256x256 .f32) (xs : Vec F S2x128x128 .f32) : Vec F S1x3x256x256 .bf16 :=
  finV x0 (stepsV (VecWindow.window x0 ![0, 0] S128x128.size inb_S256x256_S128x128_0_0)
    (VecWindow.window x0 ![128, 128] S128x128.size inb_S256x256_S128x128_128_128) 127 (by decide) (initV xs))

theorem initV_eq (xs ys : Vec F S2x128x128 .f32) : initV xs = initV ys := by
  funext y
  unfold initV VecWindow.put
  by_cases h1 : ∀ a, (![1, 0, 0] : Fin 3 → ℕ) a ≤ (y a).val ∧ (y a).val < (![1, 0, 0] : Fin 3 → ℕ) a + S1x128x128.size a
  · rw [dif_pos h1, dif_pos h1]
  · rw [dif_neg h1, dif_neg h1]
    have h0 : ∀ a, (![0, 0, 0] : Fin 3 → ℕ) a ≤ (y a).val ∧ (y a).val < (![0, 0, 0] : Fin 3 → ℕ) a + S1x128x128.size a := by
      by_contra h0
      have b0 : (y 0).val < 2 := (y 0).isLt
      have b1 : (y 1).val < 128 := (y 1).isLt
      have b2 : (y 2).val < 128 := (y 2).isLt
      rcases Nat.lt_or_ge (y 0).val 1 with hlt | hge
      · exact h0 fun a => by fin_cases a <;> simp <;> omega
      · exact h1 fun a => by fin_cases a <;> simp <;> omega
    rw [dif_pos h0, dif_pos h0]

theorem init_wp (c : Dev nD) (arg1 : Memref sig .tc .vmem S256x256 .f32) (harg1 : arg1.IsWhole)
    (arg3 : Memref sig .tc .vmem S2x128x128 .f32) (harg3 : arg3.IsWhole)
    (x0 : Vec F S256x256 .f32) (xs : Vec F S2x128x128 .f32) (E : Set ℕ) (Q : PUnit → sProp 𝕄)
    (K : Vec F S128x128 .f32 → Vec F S128x128 .f32 → M (F := F) PUnit) :
    iprop(owns (c : Thread nD τ) arg1 fullShare x0 ∗ owns (c : Thread nD τ) arg3 fullShare xs
      ∗ (iprop(owns (c : Thread nD τ) arg1 fullShare x0 ∗ owns (c : Thread nD τ) arg3 fullShare (initV xs))
          -∗ wp frame (wpE (defs₀ (F := F)) Variants.none c none) E
              (K (VecWindow.window x0 ![0, 0] S128x128.size inb_S256x256_S128x128_0_0)
                (VecWindow.window x0 ![128, 128] S128x128.size inb_S256x256_S128x128_128_128)) Q))
    ⊢ wp frame (wpE (defs₀ (F := F)) Variants.none c none) E (initP arg1 arg3 K) Q := by
  unfold initP owns
  iintro ⟨⟨%f0, %hf0, H0⟩, ⟨%fs, %hfs, HS⟩, Hk⟩
  obtain rfl := harg1.eq_unread hf0
  obtain rfl := harg3.eq_unread hfs
  sl_exec
  have e0 : arg1.view.readAt (Elt F) (Rect.unit (s := S256x256) ![0, 0] S128x128.size inb_S256x256_S128x128_0_0).toLoadRect (harg1.unread x0) = VecWindow.window x0 ![0, 0] S128x128.size inb_S256x256_S128x128_0_0 :=
    (View.readAt_unit _ _ _ rfl inb_S256x256_S128x128_0_0).trans (by rw [harg1.read_unread])
  have e1 : arg1.view.readAt (Elt F) (Rect.unit (s := S256x256) ![128, 128] S128x128.size inb_S256x256_S128x128_128_128).toLoadRect (harg1.unread x0) = VecWindow.window x0 ![128, 128] S128x128.size inb_S256x256_S128x128_128_128 :=
    (View.readAt_unit _ _ _ rfl inb_S256x256_S128x128_128_128).trans (by rw [harg1.read_unread])
  rw [e0, e1]
  iapply Hk
  isplitl [H0]
  · iexists _; isplitr; · ipureintro; exact harg1.read_unread _
    iexact H0
  iexists _; isplitr; swap; · iexact HS
  ipureintro
  rw [View.read_writes_cons_put _ _ _ _ _ rfl, View.read_writes_cons_put _ _ _ _ _ rfl, View.writes_nil, harg3.read_unread]; rfl

theorem inv_wp (c : Dev nD) (arg1 : Memref sig .tc .vmem S256x256 .f32) (harg1 : arg1.IsWhole)
    (arg2 : Memref sig .tc .vmem S1x3x256x256 .bf16) (harg2 : arg2.IsWhole)
    (arg3 : Memref sig .tc .vmem S2x128x128 .f32) (harg3 : arg3.IsWhole)
    (x0 : Vec F S256x256 .f32) (xs : Vec F S2x128x128 .f32) (E : Set ℕ) (Q : PUnit → sProp 𝕄) :
    iprop(owns (c : Thread nD τ) arg1 fullShare x0 ∗ (∃ d, owns (c : Thread nD τ) arg2 fullShare d) ∗ owns (c : Thread nD τ) arg3 fullShare xs
      ∗ (iprop(owns (c : Thread nD τ) arg1 fullShare x0 ∗ owns (c : Thread nD τ) arg2 fullShare (invV x0 xs) ∗ (∃ d, owns (c : Thread nD τ) arg3 fullShare d)) -∗ Q ⟨⟩))
    ⊢ wp frame (wpE (defs₀ (F := F)) Variants.none c none) E (invP arg1 arg2 harg2 arg3) Q := by
  unfold invP
  iintro ⟨H0, H1, HS, Hk⟩
  iapply (init_wp c arg1 harg1 arg3 harg3 x0 xs E Q _)
  isplitl [H0]; · iexact H0
  isplitl [HS]; · iexact HS
  iintro ⟨H0, HS⟩
  iapply (steps_wp c arg3 harg3 _ _ E Q _ 127 _ _)
  isplitl [HS]; · iexact HS
  iintro HS
  iapply (fin_wp c arg1 harg1 arg2 harg2 arg3 harg3 x0 _ E Q)
  isplitl [H0]; · iexact H0
  isplitl [H1]; · iexact H1
  isplitl [HS]; · iexact HS
  iintro ⟨H0, H1, HS⟩
  iapply Hk
  isplitl [H0]; · iexact H0
  isplitl [H1]; · iexact H1
  iexists _; iexact HS

/-- What the body stores, a function of the block alone: the scratch is written over before it is read. -/
def invOut (x0 : Vec F S256x256 .f32) : Vec F S1x3x256x256 .bf16 := invV x0 (fun _ => Scalar.ofBits .f32 0#32)

/-- The body's triple. -/
theorem body_wp (c : Dev nD) (i : grid0.Coords) (arg1 : Memref sig .tc .vmem S256x256 .f32) (harg1 : arg1.IsWhole)
    (arg2 : Memref sig .tc .vmem S1x3x256x256 .bf16) (harg2 : arg2.IsWhole)
    (arg3 : Memref sig .tc .vmem S2x128x128 .f32) (harg3 : arg3.IsWhole)
    (x0 : Vec F S256x256 .f32) (E : Set ℕ) (Q : PUnit → sProp 𝕄) :
    iprop(owns (c : Thread nD τ) arg1 fullShare x0 ∗ (∃ d, owns (c : Thread nD τ) arg2 fullShare d) ∗ (∃ d, owns (c : Thread nD τ) arg3 fullShare d)
      ∗ (iprop(owns (c : Thread nD τ) arg1 fullShare x0 ∗ owns (c : Thread nD τ) arg2 fullShare (invOut x0) ∗ (∃ d, owns (c : Thread nD τ) arg3 fullShare d)) -∗ Q ⟨⟩))
    ⊢ wp frame (wpE (defs₀ (F := F)) Variants.none c none) E (cc0_diag_inverse i arg1 harg1 arg2 harg2 arg3 harg3) Q := by
  rw [body_eq]
  iintro ⟨H0, H1, ⟨%d, HS⟩, Hk⟩
  have e : invOut x0 = invV x0 d := by unfold invOut invV; rw [initV_eq _ d]
  rw [e]
  iapply (inv_wp c arg1 harg1 arg2 harg2 arg3 harg3 x0 d E Q)
  isplitl [H0]; · iexact H0
  isplitl [H1]; · iexact H1
  isplitl [HS]; · iexact HS
  iexact Hk

end Cert.KernelIdeal.Inv
-- ==== Proof.InvRegion.lean ====
module

public import proofs.«01_k».proof.Proof.InvRun
public import proofs.«01_k».proof.Proof.Gen.KernelIdeal.Launch
public import proofs.«01_k».proof.Proof.Gen.KernelIdeal.Points

@[expose] public section

set_option maxRecDepth 16384

noncomputable section

namespace Cert.KernelIdeal.Inv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : Valuation τ sig (Elt F))

/-- Window `w`'s block at point `t`, read off its array as the region finds it. -/
def iblk (w : Fin cfg0.W) (t : Fin cfg0.N) : ((cfg0.win w).xblock (cfg0.grid.coords t)).Idx → Elt F (cfg0.win w).elt :=
  ((cfg0.win w).blk t).view.read (Elt F) (W (Proc.devRef .tc (Pipeline.arrRef spec0 w)))

/-- The proof data of the inversion's pipeline: the inverse of each diagonal block is what the body leaves. -/
def dat (c : Dev nD) : Dat τ (Elt F) Unit ℕ (UR sig nD τ) ℕ cfg0 c where
  A w := W (Proc.devRef .tc (Pipeline.arrRef spec0 w))
  after w t := match w with
    | ⟨0, _⟩ => iblk W 0 t
    | ⟨1, _⟩ => invOut (iblk W 0 t)
  Φ _ := Pipeline.ΦA spec0 c
  q _ := fullShare
  owed _ := 0

theorem A_eq (c : Dev nD) (w : Fin cfg0.W) : (dat W c).A w = W (Proc.devRef .tc (Pipeline.arrRef spec0 w)) := by
  dsimp only [dat]

theorem after_0 (c : Dev nD) (t : Fin cfg0.N) : (dat W c).after 0 t = iblk W 0 t := by dsimp only [dat]
theorem after_1 (c : Dev nD) (t : Fin cfg0.N) : (dat W c).after 1 t = invOut (iblk W 0 t) := by dsimp only [dat]

theorem before_0 (c : Dev nD) (t : Fin cfg0.N) (d) : (dat W c).before 0 t d = iblk W 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

abbrev ms_0 (t : Fin cfg0.N) : Memref sig .tc .vmem S256x256 .f32 := win0_0.stage (cfg0.slots t 0)
abbrev ms_1 (t : Fin cfg0.N) : Memref sig .tc .vmem S1x3x256x256 .bf16 := win0_1.stage (cfg0.slots t 1)
abbrev scM : Memref sig .tc .vmem S2x128x128 .f32 := Memref.whole cc0_scratch0

/-- What the body is called with at point `t`, -/
def bodyPre (c : Dev nD) (t : Fin cfg0.N) : sProp 𝕄 :=
  iprop((dat W c).Φ t.castSucc ∗ (dat W c).owesAt () t.castSucc
    ∗ (∃ d, owns (c : Thread nD τ) (ms_0 t) fullShare ((dat W c).before 0 t d))
    ∗ (∃ d, owns (c : Thread nD τ) (ms_1 t) fullShare ((dat W c).before 1 t d)))

/-- and what it returns. -/
def bodyPost (c : Dev nD) (t : Fin cfg0.N) : sProp 𝕄 :=
  iprop((dat W c).Φ t.succ ∗ (dat W c).owesAt () t.succ
    ∗ owns (c : Thread nD τ) (ms_0 t) fullShare ((dat W c).after 0 t)
    ∗ owns (c : Thread nD τ) (ms_1 t) fullShare ((dat W c).after 1 t))

theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0]
  rw [show (dat W c).Φ t.succ = (dat W c).Φ t.castSucc from rfl,
    show (dat W c).owesAt () t.succ = (dat W c).owesAt () t.castSucc from rfl,
    after_0, after_1]
  rw [show (dat W c).Φ t.castSucc = Pipeline.ΦA spec0 c from rfl]
  unfold Pipeline.ΦA
  rw [scopedRest0_eq]
  iintro ⟨⟨⟨⟨%f, HS⟩, Hrest⟩, Hg⟩, Ho, ⟨%d0, H0⟩, ⟨%d1, H1⟩⟩
  iapply (body_wp c (grid0.coords t) _ _ _ _ _ _ (iblk W 0 t) Set.univ _)
  isplitl [H0]; · iexact H0
  isplitl [H1]; · iexists _; iexact H1
  isplitl [HS]
  · iexists f
    iapply (Entails.of_eq (owns_whole (c : Thread nD τ) cc0_scratch0 fullShare f).symm)
    iexact HS
  iintro ⟨H0, H1, ⟨%g, HS⟩⟩
  isplitl [HS Hrest Hg]
  · isplitl [HS Hrest]
    · isplitl [HS]
      · iexists g
        iapply (Entails.of_eq (owns_whole (c : Thread nD τ) cc0_scratch0 fullShare g))
        iexact HS
      iexact Hrest
    iexact Hg
  isplitl [Ho]; · iexact Ho
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.KernelIdeal.Inv

end
-- ==== Proof.SolveTrips.lean ====
module

public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.VecWindow

@[expose] public section

set_option maxRecDepth 16384

noncomputable section

namespace Cert.KernelIdeal.Solve

open Idealize.ShloMosaic Idealize.ShloMosaic.TcCoe Idealize.ShloMosaic.Tactic
open Cert.KernelIdeal.Gen

variable {F : FTy → Type} [FloatOps F]

/-- The column of each lane. -/
def lanes : IVec S64x128 32 := iota .tc S64x128 32 [1] iota_S64x128_d1_w32

/-- The tile's number as the kernel holds it. -/
def tileWord (i : grid1.Coords) : BitVec 32 := BitVec.ofNat 32 (i 1).val

/-- Where in a row of 128 codes the tile's 64 codes begin. -/
def codeOff (arg1 : BitVec 32) : BitVec 32 :=
  let v74 : BitVec 1 := Scalar.cmpi .eq 2#32 0#32
  let v75 : BitVec 32 := Scalar.select v74 1#32 2#32
  let v76 : BitVec 32 := Scalar.remsi arg1 v75
  let v77 : BitVec 1 := Scalar.cmpi .ne v76 0#32
  let v78 : BitVec 1 := Scalar.cmpi .slt v76 0#32
  let v79 : BitVec 1 := Scalar.cmpi .slt v75 0#32
  let v80 : BitVec 1 := Scalar.xori v78 v79
  let v81 : BitVec 1 := Scalar.andi v80 v77
  let v82 : BitVec 32 := Scalar.addi v76 v75
  let v83 : BitVec 32 := Scalar.select v81 v82 v76
  let v84 : BitVec 32 := Scalar.muli v83 64#32
  Scalar.addi v84 0#32

/-- The values of the left half of a block of 64 rows, from its codes and the four words of a codebook. -/
def leftPay (i : grid1.Coords) (x : Vec F S1x64x128 .i8) (w0 w1 w2 w3 : Vec F S1x1x1x128 .i32) : Vec F S1x64x128 .bf16 :=
  k1_pay12 (k1_pay11 lanes (k1_pay6 (k1_pay2 (F := F) x) (codeOff (tileWord i)) (k1_pay3 lanes) (k1_pay4 lanes) (k1_pay5 lanes))
    (k1_pay7 (k1_pay2 (F := F) x) (codeOff (tileWord i)) (k1_pay3 lanes) (k1_pay4 lanes) (k1_pay5 lanes))
    (k1_pay8 (k1_pay2 (F := F) x) (codeOff (tileWord i)) (k1_pay3 lanes) (k1_pay4 lanes) (k1_pay5 lanes) (w0 : IVec S1x1x1x128 32))
    (k1_pay9 (k1_pay2 (F := F) x) (codeOff (tileWord i)) (k1_pay3 lanes) (k1_pay4 lanes) (k1_pay5 lanes) (w1 : IVec S1x1x1x128 32))
    (k1_pay10 (w2 : IVec S1x1x1x128 32)) (w3 : IVec S1x1x1x128 32))

/-- The values of the right half. -/
def rightPay (i : grid1.Coords) (x : Vec F S1x64x128 .i8) (w0 w1 w2 w3 : Vec F S1x1x1x128 .i32) : Vec F S1x64x128 .bf16 :=
  k1_pay22 (k1_pay21 lanes (k1_pay15 (k1_pay2 (F := F) x) (k1_pay13 lanes) (k1_pay14 (tileWord i)))
    (k1_pay16 (k1_pay2 (F := F) x) (k1_pay13 lanes) (k1_pay14 (tileWord i)))
    (k1_pay17 (k1_pay2 (F := F) x) (k1_pay13 lanes) (k1_pay14 (tileWord i)) (w0 : IVec S1x1x1x128 32))
    (k1_pay18 (k1_pay2 (F := F) x) (k1_pay13 lanes) (k1_pay14 (tileWord i)) (w1 : IVec S1x1x1x128 32))
    (k1_pay19 (w2 : IVec S1x1x1x128 32)) k1_pay20 (w3 : IVec S1x1x1x128 32))

/-- What one trip of the gather loop stores. -/
theorem tripL_t1 (𝒱 : Variants) (c : Dev nD) (bd : Option 𝒱.V) (i : grid1.Coords) (arg2 : Memref sig .tc .vmem S1x768x256 .bf16) (harg2 : arg2.IsWhole) (arg3 : Memref sig .tc .vmem S1x768x128 .i8) (harg3 : arg3.IsWhole) (arg4 : Memref sig .tc .vmem S1x2x4x128 .i32) (harg4 : arg4.IsWhole) (arg5 : Memref sig .tc .vmem S5120x256 .f32) (harg5 : arg5.IsWhole) (arg6 : Memref sig .tc .vmem S1x3x256x256 .bf16) (harg6 : arg6.IsWhole) (arg7 : Memref sig .tc .vmem S1x768x256 .bf16) (harg7 : arg7.IsWhole) (arg8 : Memref sig .tc .vmem S1x768x256 .f32) (harg8 : arg8.IsWhole) (arg9 : Memref sig .tc .vmem S3x768x5120 .bf16) (harg9 : arg9.IsWhole) (arg10 : Memref sig .tc .vmem S768x256 .f32) (harg10 : arg10.IsWhole)
    (X3 : BufTy.Contents (Elt F) arg3.view.ty) (X4 : BufTy.Contents (Elt F) arg4.view.ty) (k : Fin k1_t1_loop.trips) :
    tripL_k1_t1 (F := F) 𝒱 c bd i arg2 harg2 arg3 harg3 arg4 harg4 arg5 harg5 arg6 harg6 arg7 harg7 arg8 harg8 arg9 harg9 arg10 harg10 (tileWord i) lanes X3 X4 k
      = [⟨Rect.unit (s := S1x768x256) (k1_off3 k) S1x64x128.size (k1_off3_inb k),
          rightPay i (arg3.view.readAt (Elt F) (Rect.unit (s := S1x768x128) (k1_off1 k) S1x64x128.size (k1_off1_inb k)).toLoadRect X3)
            (arg4.view.readAt (Elt F) (Rect.unit (s := S1x2x4x128) ![0, 1, 0, 0] S1x1x1x128.size inb_S1x2x4x128_S1x1x1x128_0_1_0_0).toLoadRect X4)
            (arg4.view.readAt (Elt F) (Rect.unit (s := S1x2x4x128) ![0, 1, 1, 0] S1x1x1x128.size inb_S1x2x4x128_S1x1x1x128_0_1_1_0).toLoadRect X4)
            (arg4.view.readAt (Elt F) (Rect.unit (s := S1x2x4x128) ![0, 1, 2, 0] S1x1x1x128.size inb_S1x2x4x128_S1x1x1x128_0_1_2_0).toLoadRect X4)
            (arg4.view.readAt (Elt F) (Rect.unit (s := S1x2x4x128) ![0, 1, 3, 0] S1x1x1x128.size inb_S1x2x4x128_S1x1x1x128_0_1_3_0).toLoadRect X4)⟩,
         ⟨Rect.unit (s := S1x768x256) (k1_off2 k) S1x64x128.size (k1_off2_inb k),
          leftPay i (arg3.view.readAt (Elt F) (Rect.unit (s := S1x768x128) (k1_off1 k) S1x64x128.size (k1_off1_inb k)).toLoadRect X3)
            (arg4.view.readAt (Elt F) (Rect.unit (s := S1x2x4x128) ![0, 0, 0, 0] S1x1x1x128.size inb_S1x2x4x128_S1x1x1x128_0_0_0_0).toLoadRect X4)
            (arg4.view.readAt (Elt F) (Rect.unit (s := S1x2x4x128) ![0, 0, 1, 0] S1x1x1x128.size inb_S1x2x4x128_S1x1x1x128_0_0_1_0).toLoadRect X4)
            (arg4.view.readAt (Elt F) (Rect.unit (s := S1x2x4x128) ![0, 0, 2, 0] S1x1x1x128.size inb_S1x2x4x128_S1x1x1x128_0_0_2_0).toLoadRect X4)
            (arg4.view.readAt (Elt F) (Rect.unit (s := S1x2x4x128) ![0, 0, 3, 0] S1x1x1x128.size inb_S1x2x4x128_S1x1x1x128_0_0_3_0).toLoadRect X4)⟩] := by
  sl_kernel_rfl

/-- What one trip of the update loop stores. -/
theorem tripL_t2 (𝒱 : Variants) (c : Dev nD) (bd : Option 𝒱.V) (i : grid1.Coords) (arg2 : Memref sig .tc .vmem S1x768x256 .bf16) (harg2 : arg2.IsWhole) (arg3 : Memref sig .tc .vmem S1x768x128 .i8) (harg3 : arg3.IsWhole) (arg4 : Memref sig .tc .vmem S1x2x4x128 .i32) (harg4 : arg4.IsWhole) (arg5 : Memref sig .tc .vmem S5120x256 .f32) (harg5 : arg5.IsWhole) (arg6 : Memref sig .tc .vmem S1x3x256x256 .bf16) (harg6 : arg6.IsWhole) (arg7 : Memref sig .tc .vmem S1x768x256 .bf16) (harg7 : arg7.IsWhole) (arg8 : Memref sig .tc .vmem S1x768x256 .f32) (harg8 : arg8.IsWhole) (arg9 : Memref sig .tc .vmem S3x768x5120 .bf16) (harg9 : arg9.IsWhole) (arg10 : Memref sig .tc .vmem S768x256 .f32) (harg10 : arg10.IsWhole)
    (X5 : BufTy.Contents (Elt F) arg5.view.ty) (X9 : BufTy.Contents (Elt F) arg9.view.ty) (k : Fin (k1_t2_loop i).trips)
    (acc : BitVec 32) (f : BufTy.Contents (Elt F) arg10.view.ty) :
    tripL_k1_t2 (F := F) 𝒱 c bd i arg2 harg2 arg3 harg3 arg4 harg4 arg5 harg5 arg6 harg6 arg7 harg7 arg8 harg8 arg9 harg9 arg10 harg10 X5 X9 k acc f
      = [⟨Rect.unit (s := S768x256) ![0, 0] S768x256.size inb_S768x256_S768x256_0_0,
          k1_pay24 (arg9.view.readAt (Elt F) (Rect.unit (s := S3x768x5120) (k1_off4 i k) S1x768x256.size (k1_off4_inb i k)).toLoadRect X9)
            (arg9.view.readAt (Elt F) (Rect.unit (s := S3x768x5120) (k1_off5 i k) S1x768x256.size (k1_off5_inb i k)).toLoadRect X9)
            (arg9.view.readAt (Elt F) (Rect.unit (s := S3x768x5120) (k1_off6 i k) S1x768x256.size (k1_off6_inb i k)).toLoadRect X9)
            (arg10.view.readAt (Elt F) (Rect.unit (s := S768x256) ![0, 0] S768x256.size inb_S768x256_S768x256_0_0).toLoadRect f)
            (arg5.view.readAt (Elt F) (Rect.unit (s := S5120x256) (k1_off7 i k) S256x256.size (k1_off7_inb i k)).toLoadRect X5)⟩] := by
  sl_kernel_rfl

/-- The number of trips of the update loop is the tile's number. -/
theorem trips_t2 : ∀ i : grid1.Coords, (k1_t2_loop i).trips = (i 1).val := by decide +kernel

/-- The third loop has no trips. -/
theorem trips_t3 (i : grid1.Coords) : (k1_t3_loop i).trips = 0 := Nat.le_zero.mp (k1_t3_abs i).2.1

end Cert.KernelIdeal.Solve

end
-- ==== Proof.SolveVal.lean ====
module

public import proofs.«01_k».proof.Proof.SolveTrips
public import Idealize.ShloMosaic.Lib.ValueIdxCore

@[expose] public section

set_option maxRecDepth 16384

noncomputable section

namespace Cert.KernelIdeal.Solve

open Idealize.ShloMosaic Idealize.ShloMosaic.TcCoe Idealize.ShloMosaic.Tactic Idealize.ShloMosaic.ValueIdx
open Cert.KernelIdeal.Gen

variable {F : FTy → Type} [FloatOps F]

theorem inb_codes {n : ℕ} (hn : n < 12) : ∀ a, (![0, 64 * n, 0] : Fin 3 → ℕ) a + S1x64x128.size a ≤ S1x768x128.size a
  | 0 => le_refl 1
  | 1 => by show 64 * n + 64 ≤ 768; omega
  | 2 => le_refl 128

theorem inb_words {h w : ℕ} (hh : h < 2) (hw : w < 4) : ∀ a, (![0, h, w, 0] : Fin 4 → ℕ) a + S1x1x1x128.size a ≤ S1x2x4x128.size a
  | 0 => le_refl 1
  | 1 => by show h + 1 ≤ 2; omega
  | 2 => by show w + 1 ≤ 4; omega
  | 3 => le_refl 128

theorem inb_tile {p j : ℕ} (hp : p < 3) (hj : j < 20) : ∀ a, (![p, 0, 256 * j] : Fin 3 → ℕ) a + S1x768x256.size a ≤ S3x768x5120.size a
  | 0 => by show p + 1 ≤ 3; omega
  | 1 => le_refl 768
  | 2 => by show 256 * j + 256 ≤ 5120; omega

theorem inb_fac {j : ℕ} (hj : j < 20) : ∀ a, (![256 * j, 0] : Fin 2 → ℕ) a + S256x256.size a ≤ S5120x256.size a
  | 0 => by show 256 * j + 256 ≤ 5120; omega
  | 1 => le_refl 256

/-- Word `w` of the codebook of half `h`. -/
def wordV (x4 : Vec F S1x2x4x128 .i32) {h w : ℕ} (hh : h < 2) (hw : w < 4) : Vec F S1x1x1x128 .i32 :=
  VecWindow.window x4 ![0, h, w, 0] S1x1x1x128.size (inb_words hh hw)

/-- The codes of rows `64 n` to `64 n + 63`. -/
def codeV (x3 : Vec F S1x768x128 .i8) {n : ℕ} (hn : n < 12) : Vec F S1x64x128 .i8 :=
  VecWindow.window x3 ![0, 64 * n, 0] S1x64x128.size (inb_codes hn)

/-- The left half of the values of block `n`. -/
def leftV (i : grid1.Coords) (x3 : Vec F S1x768x128 .i8) (x4 : Vec F S1x2x4x128 .i32) {n : ℕ} (hn : n < 12) : Vec F S1x64x128 .bf16 :=
  leftPay i (codeV x3 hn) (wordV x4 (h := 0) (w := 0) (by decide) (by decide)) (wordV x4 (h := 0) (w := 1) (by decide) (by decide))
    (wordV x4 (h := 0) (w := 2) (by decide) (by decide)) (wordV x4 (h := 0) (w := 3) (by decide) (by decide))

/-- The right half of the values of block `n`. -/
def rightV (i : grid1.Coords) (x3 : Vec F S1x768x128 .i8) (x4 : Vec F S1x2x4x128 .i32) {n : ℕ} (hn : n < 12) : Vec F S1x64x128 .bf16 :=
  rightPay i (codeV x3 hn) (wordV x4 (h := 1) (w := 0) (by decide) (by decide)) (wordV x4 (h := 1) (w := 1) (by decide) (by decide))
    (wordV x4 (h := 1) (w := 2) (by decide) (by decide)) (wordV x4 (h := 1) (w := 3) (by decide) (by decide))

/-- The values' buffer after `n` trips of the gather loop. -/
def gatherV (i : grid1.Coords) (x3 : Vec F S1x768x128 .i8) (x4 : Vec F S1x2x4x128 .i32) : (n : ℕ) → n ≤ 12 → Vec F S1x768x256 .bf16 → Vec F S1x768x256 .bf16
  | 0, _, q => q
  | n + 1, hn, q => VecWindow.put (VecWindow.put (gatherV i x3 x4 n (by omega) q) ![0, 64 * n, 0] S1x64x128.size (leftV i x3 x4 (n := n) (by omega)))
      ![0, 64 * n, 128] S1x64x128.size (rightV i x3 x4 (n := n) (by omega))

/-- The block of values, entry by entry. -/
def qV (i : grid1.Coords) (x3 : Vec F S1x768x128 .i8) (x4 : Vec F S1x2x4x128 .i32) : Vec F S1x768x256 .bf16 := fun y =>
  have h1 : (y 1).val < 768 := (y 1).isLt
  have h2 : (y 2).val < 256 := (y 2).isLt
  if h : (y 2).val < 128 then leftV i x3 x4 (n := (y 1).val / 64) (by omega) (ix3 (n0 := 1) (n1 := 64) (n2 := 128) 0 ⟨(y 1).val % 64, by omega⟩ ⟨(y 2).val, h⟩)
  else rightV i x3 x4 (n := (y 1).val / 64) (by omega) (ix3 (n0 := 1) (n1 := 64) (n2 := 128) 0 ⟨(y 1).val % 64, by omega⟩ ⟨(y 2).val - 128, by omega⟩)

theorem qV_left (i : grid1.Coords) (x3 : Vec F S1x768x128 .i8) (x4 : Vec F S1x2x4x128 .i32) (n : ℕ) (hn : n < 12) (y : S1x768x256.Idx)
    (z : S1x64x128.Idx) (h1 : (y 1).val = 64 * n + (z 1).val) (h2 : (y 2).val = (z 2).val) : qV i x3 x4 y = leftV i x3 x4 hn z := by
  have hz : (z 1).val < 64 := (z 1).isLt
  have hz2 : (z 2).val < 128 := (z 2).isLt
  have hz0 : (z 0).val < 1 := (z 0).isLt
  obtain rfl : n = (y 1).val / 64 := by omega
  unfold qV
  rw [dif_pos (by omega)]
  congr 1
  funext a
  match a with
  | 0 => exact Fin.ext (by show 0 = (z 0).val; omega)
  | 1 => exact Fin.ext (by show (y 1).val % 64 = (z 1).val; omega)
  | 2 => exact Fin.ext h2

theorem qV_right (i : grid1.Coords) (x3 : Vec F S1x768x128 .i8) (x4 : Vec F S1x2x4x128 .i32) (n : ℕ) (hn : n < 12) (y : S1x768x256.Idx)
    (z : S1x64x128.Idx) (h1 : (y 1).val = 64 * n + (z 1).val) (h2 : (y 2).val = 128 + (z 2).val) : qV i x3 x4 y = rightV i x3 x4 hn z := by
  have hz : (z 1).val < 64 := (z 1).isLt
  have hz2 : (z 2).val < 128 := (z 2).isLt
  have hz0 : (z 0).val < 1 := (z 0).isLt
  obtain rfl : n = (y 1).val / 64 := by omega
  unfold qV
  rw [dif_neg (by omega)]
  congr 1
  funext a
  match a with
  | 0 => exact Fin.ext (by show 0 = (z 0).val; omega)
  | 1 => exact Fin.ext (by show (y 1).val % 64 = (z 1).val; omega)
  | 2 => exact Fin.ext (by show (y 2).val - 128 = (z 2).val; omega)

theorem gatherV_at (i : grid1.Coords) (x3 : Vec F S1x768x128 .i8) (x4 : Vec F S1x2x4x128 .i32) (q : Vec F S1x768x256 .bf16) (y : S1x768x256.Idx) :
    ∀ (n : ℕ) (hn : n ≤ 12), (y 1).val < 64 * n → gatherV i x3 x4 n hn q y = qV i x3 x4 y
  | 0, _, h => absurd h (by omega)
  | n + 1, hn, h => by
    have y0 : (y 0).val < 1 := (y 0).isLt
    have y2 : (y 2).val < 256 := (y 2).isLt
    unfold gatherV
    by_cases hr : (y 1).val < 64 * n
    · have e1 : ¬ ∀ a, (![0, 64 * n, 128] : Fin 3 → ℕ) a ≤ (y a).val ∧ (y a).val < (![0, 64 * n, 128] : Fin 3 → ℕ) a + S1x64x128.size a :=
        fun hh => by have e : 64 * n ≤ (y 1).val := (hh 1).1; omega
      have e2 : ¬ ∀ a, (![0, 64 * n, 0] : Fin 3 → ℕ) a ≤ (y a).val ∧ (y a).val < (![0, 64 * n, 0] : Fin 3 → ℕ) a + S1x64x128.size a :=
        fun hh => by have e : 64 * n ≤ (y 1).val := (hh 1).1; omega
      unfold VecWindow.put
      rw [dif_neg e1, dif_neg e2]
      exact gatherV_at i x3 x4 q y n (by omega) hr
    · by_cases hc : (y 2).val < 128
      · have e1 : ¬ ∀ a, (![0, 64 * n, 128] : Fin 3 → ℕ) a ≤ (y a).val ∧ (y a).val < (![0, 64 * n, 128] : Fin 3 → ℕ) a + S1x64x128.size a :=
          fun hh => by have e : 128 ≤ (y 2).val := (hh 2).1; omega
        have e2 : ∀ a, (![0, 64 * n, 0] : Fin 3 → ℕ) a ≤ (y a).val ∧ (y a).val < (![0, 64 * n, 0] : Fin 3 → ℕ) a + S1x64x128.size a := fun a =>
          match a with
          | 0 => ⟨Nat.zero_le _, by show (y 0).val < 0 + 1; omega⟩
          | 1 => ⟨by show 64 * n ≤ (y 1).val; omega, by show (y 1).val < 64 * n + 64; omega⟩
          | 2 => ⟨Nat.zero_le _, by show (y 2).val < 0 + 128; omega⟩
        unfold VecWindow.put
        rw [dif_neg e1, dif_pos e2]
        refine (qV_left i x3 x4 n (by omega) y _ ?_ ?_).symm
        · show (y 1).val = 64 * n + ((y 1).val - 64 * n); omega
        · show (y 2).val = (y 2).val - 0; omega
      · have e1 : ∀ a, (![0, 64 * n, 128] : Fin 3 → ℕ) a ≤ (y a).val ∧ (y a).val < (![0, 64 * n, 128] : Fin 3 → ℕ) a + S1x64x128.size a := fun a =>
          match a with
          | 0 => ⟨Nat.zero_le _, by show (y 0).val < 0 + 1; omega⟩
          | 1 => ⟨by show 64 * n ≤ (y 1).val; omega, by show (y 1).val < 64 * n + 64; omega⟩
          | 2 => ⟨by show 128 ≤ (y 2).val; omega, by show (y 2).val < 128 + 128; omega⟩
        unfold VecWindow.put
        rw [dif_pos e1]
        refine (qV_right i x3 x4 n (by omega) y _ ?_ ?_).symm
        · show (y 1).val = 64 * n + ((y 1).val - 64 * n); omega
        · show (y 2).val = 128 + ((y 2).val - 128); omega

theorem gatherV_all (i : grid1.Coords) (x3 : Vec F S1x768x128 .i8) (x4 : Vec F S1x2x4x128 .i32) (q : Vec F S1x768x256 .bf16) :
    gatherV i x3 x4 12 (le_refl _) q = qV i x3 x4 :=
  funext fun y => gatherV_at i x3 x4 q y 12 _ (show (y 1).val < 64 * 12 from (y 1).isLt)

/-- One trip of the update loop. -/
def updAcc (x5 : Vec F S5120x256 .f32) (xs : Vec F S3x768x5120 .bf16) {j : ℕ} (hj : j < 20) (acc : Vec F S768x256 .f32) : Vec F S768x256 .f32 :=
  k1_pay24 (VecWindow.window xs ![0, 0, 256 * j] S1x768x256.size (inb_tile (by decide) hj))
    (VecWindow.window xs ![1, 0, 256 * j] S1x768x256.size (inb_tile (by decide) hj))
    (VecWindow.window xs ![2, 0, 256 * j] S1x768x256.size (inb_tile (by decide) hj)) acc
    (VecWindow.window x5 ![256 * j, 0] S256x256.size (inb_fac hj))

/-- The accumulator after `n` trips. -/
def accV (x5 : Vec F S5120x256 .f32) (xs : Vec F S3x768x5120 .bf16) (acc : Vec F S768x256 .f32) : (n : ℕ) → n ≤ 20 → Vec F S768x256 .f32
  | 0, _ => acc
  | n + 1, hn => updAcc x5 xs (j := n) (by omega) (accV x5 xs acc n (by omega))

theorem read_gather (𝒱 : Variants) (c : Dev nD) (bd : Option 𝒱.V) (i : grid1.Coords) (arg2 : Memref sig .tc .vmem S1x768x256 .bf16) (harg2 : arg2.IsWhole) (arg3 : Memref sig .tc .vmem S1x768x128 .i8) (harg3 : arg3.IsWhole) (arg4 : Memref sig .tc .vmem S1x2x4x128 .i32) (harg4 : arg4.IsWhole) (arg5 : Memref sig .tc .vmem S5120x256 .f32) (harg5 : arg5.IsWhole) (arg6 : Memref sig .tc .vmem S1x3x256x256 .bf16) (harg6 : arg6.IsWhole) (arg7 : Memref sig .tc .vmem S1x768x256 .bf16) (harg7 : arg7.IsWhole) (arg8 : Memref sig .tc .vmem S1x768x256 .f32) (harg8 : arg8.IsWhole) (arg9 : Memref sig .tc .vmem S3x768x5120 .bf16) (harg9 : arg9.IsWhole) (arg10 : Memref sig .tc .vmem S768x256 .f32) (harg10 : arg10.IsWhole)
    (x3 : Vec F S1x768x128 .i8) (x4 : Vec F S1x2x4x128 .i32) (f : BufTy.Contents (Elt F) arg7.view.ty) :
    ∀ (n : ℕ) (hn : n ≤ 12), arg7.view.read (Elt F) (arg7.view.writes (Elt F) f (pb_k1_t1 (F := F) 𝒱 c bd i arg2 harg2 arg3 harg3 arg4 harg4 arg5 harg5 arg6 harg6 arg7 harg7 arg8 harg8 arg9 harg9 arg10 harg10 (tileWord i) lanes (harg3.unread x3) (harg4.unread x4) n))
      = gatherV i x3 x4 n hn (arg7.view.read (Elt F) f)
  | 0, _ => by unfold pb_k1_t1 gatherV; rw [View.writes_nil]
  | n + 1, hn => by
    have hn' : n < k1_t1_loop.trips := by have : k1_t1_loop.trips = 12 := by decide +kernel
                                          omega
    have ih := read_gather 𝒱 c bd i arg2 harg2 arg3 harg3 arg4 harg4 arg5 harg5 arg6 harg6 arg7 harg7 arg8 harg8 arg9 harg9 arg10 harg10 x3 x4 f n (by omega)
    have es := pb_k1_t1_succ (F := F) 𝒱 c bd i arg2 harg2 arg3 harg3 arg4 harg4 arg5 harg5 arg6 harg6 arg7 harg7 arg8 harg8 arg9 harg9 arg10 harg10 (tileWord i) lanes (harg3.unread x3) (harg4.unread x4) ⟨n, hn'⟩
    have o1 : k1_off1 ⟨n, hn'⟩ = ![0, 64 * n, 0] := k1_off1_eq _
    have o2 : k1_off2 ⟨n, hn'⟩ = ![0, 64 * n, 0] := k1_off2_eq _
    have o3 : k1_off3 ⟨n, hn'⟩ = ![0, 64 * n, 128] := k1_off3_eq _
    have er : arg3.view.readAt (Elt F) (Rect.unit (s := S1x768x128) (k1_off1 ⟨n, hn'⟩) S1x64x128.size (k1_off1_inb ⟨n, hn'⟩)).toLoadRect (harg3.unread x3) = codeV x3 (n := n) (by omega) :=
      (View.readAt_unit (off' := ![0, 64 * n, 0]) arg3.view (harg3.unread x3) _ o1 (inb_codes (by omega))).trans (by rw [harg3.read_unread]; rfl)
    have ew : ∀ (h w : ℕ) (hh : h < 2) (hw : w < 4) (inb : ∀ a, (![0, h, w, 0] : Fin 4 → ℕ) a + S1x1x1x128.size a ≤ S1x2x4x128.size a),
        arg4.view.readAt (Elt F) (Rect.unit (s := S1x2x4x128) ![0, h, w, 0] S1x1x1x128.size inb).toLoadRect (harg4.unread x4) = wordV x4 hh hw := fun h w hh hw inb =>
      (View.readAt_unit (off' := ![0, h, w, 0]) arg4.view (harg4.unread x4) _ rfl inb).trans (by rw [harg4.read_unread]; rfl)
    refine (congrArg (fun L => arg7.view.read (Elt F) (arg7.view.writes (Elt F) f L)) es).trans ?_
    rw [tripL_t1]
    rw [List.cons_append, List.cons_append, List.nil_append, View.read_writes_cons_put _ _ _ _ _ o3, View.read_writes_cons_put _ _ _ _ _ o2, ih, er,
      ew 0 0 (by decide) (by decide), ew 0 1 (by decide) (by decide), ew 0 2 (by decide) (by decide), ew 0 3 (by decide) (by decide),
      ew 1 0 (by decide) (by decide), ew 1 1 (by decide) (by decide), ew 1 2 (by decide) (by decide), ew 1 3 (by decide) (by decide)]
    rfl

theorem read_update (𝒱 : Variants) (c : Dev nD) (bd : Option 𝒱.V) (i : grid1.Coords) (arg2 : Memref sig .tc .vmem S1x768x256 .bf16) (harg2 : arg2.IsWhole) (arg3 : Memref sig .tc .vmem S1x768x128 .i8) (harg3 : arg3.IsWhole) (arg4 : Memref sig .tc .vmem S1x2x4x128 .i32) (harg4 : arg4.IsWhole) (arg5 : Memref sig .tc .vmem S5120x256 .f32) (harg5 : arg5.IsWhole) (arg6 : Memref sig .tc .vmem S1x3x256x256 .bf16) (harg6 : arg6.IsWhole) (arg7 : Memref sig .tc .vmem S1x768x256 .bf16) (harg7 : arg7.IsWhole) (arg8 : Memref sig .tc .vmem S1x768x256 .f32) (harg8 : arg8.IsWhole) (arg9 : Memref sig .tc .vmem S3x768x5120 .bf16) (harg9 : arg9.IsWhole) (arg10 : Memref sig .tc .vmem S768x256 .f32) (harg10 : arg10.IsWhole)
    (x5 : Vec F S5120x256 .f32) (xs : Vec F S3x768x5120 .bf16) (f : BufTy.Contents (Elt F) arg10.view.ty) (init : BitVec 32) :
    ∀ (n : ℕ) (hn : n ≤ 20), n ≤ (k1_t2_loop i).trips →
      arg10.view.read (Elt F) (arg10.view.writes (Elt F) f (st_k1_t2 (F := F) 𝒱 c bd i arg2 harg2 arg3 harg3 arg4 harg4 arg5 harg5 arg6 harg6 arg7 harg7 arg8 harg8 arg9 harg9 arg10 harg10 (harg5.unread x5) (harg9.unread xs) f init n).2)
      = accV x5 xs (arg10.view.read (Elt F) f) n hn
  | 0, _, _ => by unfold st_k1_t2 accV; rw [View.writes_nil]
  | n + 1, hn, ht => by
    have hn' : n < (k1_t2_loop i).trips := by omega
    have ih := read_update 𝒱 c bd i arg2 harg2 arg3 harg3 arg4 harg4 arg5 harg5 arg6 harg6 arg7 harg7 arg8 harg8 arg9 harg9 arg10 harg10 x5 xs f init n (by omega) (by omega)
    have es := st_k1_t2_succ (F := F) 𝒱 c bd i arg2 harg2 arg3 harg3 arg4 harg4 arg5 harg5 arg6 harg6 arg7 harg7 arg8 harg8 arg9 harg9 arg10 harg10 (harg5.unread x5) (harg9.unread xs) f init ⟨n, hn'⟩
    have hj : n < 20 := by omega
    have e0 : arg9.view.readAt (Elt F) (Rect.unit (s := S3x768x5120) (k1_off4 i ⟨n, hn'⟩) S1x768x256.size (k1_off4_inb i ⟨n, hn'⟩)).toLoadRect (harg9.unread xs)
        = VecWindow.window xs ![0, 0, 256 * n] S1x768x256.size (inb_tile (by decide) hj) :=
      (View.readAt_unit (off' := ![0, 0, 256 * n]) arg9.view (harg9.unread xs) _ (k1_off4_eq i ⟨n, hn'⟩) (inb_tile (by decide) hj)).trans (by rw [harg9.read_unread])
    have e1 : arg9.view.readAt (Elt F) (Rect.unit (s := S3x768x5120) (k1_off5 i ⟨n, hn'⟩) S1x768x256.size (k1_off5_inb i ⟨n, hn'⟩)).toLoadRect (harg9.unread xs)
        = VecWindow.window xs ![1, 0, 256 * n] S1x768x256.size (inb_tile (by decide) hj) :=
      (View.readAt_unit (off' := ![1, 0, 256 * n]) arg9.view (harg9.unread xs) _ (k1_off5_eq i ⟨n, hn'⟩) (inb_tile (by decide) hj)).trans (by rw [harg9.read_unread])
    have e2 : arg9.view.readAt (Elt F) (Rect.unit (s := S3x768x5120) (k1_off6 i ⟨n, hn'⟩) S1x768x256.size (k1_off6_inb i ⟨n, hn'⟩)).toLoadRect (harg9.unread xs)
        = VecWindow.window xs ![2, 0, 256 * n] S1x768x256.size (inb_tile (by decide) hj) :=
      (View.readAt_unit (off' := ![2, 0, 256 * n]) arg9.view (harg9.unread xs) _ (k1_off6_eq i ⟨n, hn'⟩) (inb_tile (by decide) hj)).trans (by rw [harg9.read_unread])
    have e3 : arg5.view.readAt (Elt F) (Rect.unit (s := S5120x256) (k1_off7 i ⟨n, hn'⟩) S256x256.size (k1_off7_inb i ⟨n, hn'⟩)).toLoadRect (harg5.unread x5)
        = VecWindow.window x5 ![256 * n, 0] S256x256.size (inb_fac hj) :=
      (View.readAt_unit (off' := ![256 * n, 0]) arg5.view (harg5.unread x5) _ (k1_off7_eq i ⟨n, hn'⟩) (inb_fac hj)).trans (by rw [harg5.read_unread])
    refine (congrArg (fun L => arg10.view.read (Elt F) (arg10.view.writes (Elt F) f L.2)) es).trans ?_
    dsimp only
    rw [tripL_t2, List.cons_append, List.nil_append, View.read_writes_full, View.readAt_full, e0, e1, e2, e3, ih]
    rfl

theorem inb_v {p : ℕ} (hp : p < 3) : ∀ a, (![0, p, 0, 0] : Fin 4 → ℕ) a + S1x1x256x256.size a ≤ S1x3x256x256.size a
  | 0 => le_refl 1
  | 1 => by show p + 1 ≤ 3; omega
  | 2 => le_refl 256
  | 3 => le_refl 256

/-- Piece `p` of the inverse of the tile's block. -/
def pieceV (x6 : Vec F S1x3x256x256 .bf16) {p : ℕ} (hp : p < 3) : Vec F S1x1x256x256 .bf16 :=
  VecWindow.window x6 ![0, p, 0, 0] S1x1x256x256.size (inb_v hp)

theorem tile_lt (i : grid1.Coords) : (i 1).val < 20 := (i 1).isLt

/-- The accumulator when the update loop is done. -/
def resV (i : grid1.Coords) (x2 : Vec F S1x768x256 .bf16) (x3 : Vec F S1x768x128 .i8) (x4 : Vec F S1x2x4x128 .i32) (x5 : Vec F S5120x256 .f32) (xs : Vec F S3x768x5120 .bf16) : Vec F S768x256 .f32 :=
  accV x5 xs (k1_pay23 x2 (qV i x3 x4)) (i 1).val (tile_lt i).le

/-- The block of errors, from the accumulator and the inverse. -/
def errV (acc : Vec F S768x256 .f32) (x6 : Vec F S1x3x256x256 .bf16) : Vec F S1x768x256 .f32 :=
  k1_pay32 (k1_pay26 acc) (k1_pay28 acc) (k1_pay29 acc) (k1_pay30 (pieceV x6 (p := 0) (by decide))) (pieceV x6 (p := 1) (by decide)) (pieceV x6 (p := 2) (by decide))

/-- The three pieces of the errors. -/
def err0 (acc : Vec F S768x256 .f32) (x6 : Vec F S1x3x256x256 .bf16) : Vec F S1x768x256 .bf16 :=
  k1_pay37 (k1_pay26 acc) (k1_pay28 acc) (k1_pay29 acc) (k1_pay30 (pieceV x6 (p := 0) (by decide))) (pieceV x6 (p := 1) (by decide)) (pieceV x6 (p := 2) (by decide))
def err1 (acc : Vec F S768x256 .f32) (x6 : Vec F S1x3x256x256 .bf16) : Vec F S1x768x256 .bf16 :=
  k1_pay38 (k1_pay26 acc) (k1_pay28 acc) (k1_pay29 acc) (k1_pay30 (pieceV x6 (p := 0) (by decide))) (pieceV x6 (p := 1) (by decide)) (pieceV x6 (p := 2) (by decide))
def err2 (acc : Vec F S768x256 .f32) (x6 : Vec F S1x3x256x256 .bf16) : Vec F S1x768x256 .bf16 :=
  k1_pay1 (k1_pay36 (k1_pay26 acc) (k1_pay28 acc) (k1_pay29 acc) (k1_pay30 (pieceV x6 (p := 0) (by decide))) (pieceV x6 (p := 1) (by decide)) (pieceV x6 (p := 2) (by decide)))

/-- The scratch with the pieces of tile `b` stored. -/
def scrV (b : ℕ) (xs : Vec F S3x768x5120 .bf16) (e0 e1 e2 : Vec F S1x768x256 .bf16) : Vec F S3x768x5120 .bf16 :=
  VecWindow.put (VecWindow.put (VecWindow.put xs ![0, 0, 256 * b] S1x768x256.size e0) ![1, 0, 256 * b] S1x768x256.size e1) ![2, 0, 256 * b] S1x768x256.size e2

end Cert.KernelIdeal.Solve

end
-- ==== Proof.SolveRun.lean ====
module

public import proofs.«01_k».proof.Proof.SolveVal

@[expose] public section

set_option maxRecDepth 16384

noncomputable section

namespace Cert.KernelIdeal.Solve

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 2000000 in
/-- What the accumulator holds after the loops. -/
theorem read_acc (c : Dev nD) (i : grid1.Coords) (arg2 : Memref sig .tc .vmem S1x768x256 .bf16) (harg2 : arg2.IsWhole) (arg3 : Memref sig .tc .vmem S1x768x128 .i8) (harg3 : arg3.IsWhole) (arg4 : Memref sig .tc .vmem S1x2x4x128 .i32) (harg4 : arg4.IsWhole) (arg5 : Memref sig .tc .vmem S5120x256 .f32) (harg5 : arg5.IsWhole) (arg6 : Memref sig .tc .vmem S1x3x256x256 .bf16) (harg6 : arg6.IsWhole) (arg7 : Memref sig .tc .vmem S1x768x256 .bf16) (harg7 : arg7.IsWhole) (arg8 : Memref sig .tc .vmem S1x768x256 .f32) (harg8 : arg8.IsWhole) (arg9 : Memref sig .tc .vmem S3x768x5120 .bf16) (harg9 : arg9.IsWhole) (arg10 : Memref sig .tc .vmem S768x256 .f32) (harg10 : arg10.IsWhole)
    (x2 : Vec F S1x768x256 .bf16) (x3 : Vec F S1x768x128 .i8) (x4 : Vec F S1x2x4x128 .i32) (x5 : Vec F S5120x256 .f32) (xs : Vec F S3x768x5120 .bf16)
    (f7 : BufTy.Contents (Elt F) arg7.view.ty) :
    let H : List (View.Piece (Elt F) S768x256 .f32) := [⟨Rect.unit (s := S768x256) ![0, 0] S768x256.size inb_S768x256_S768x256_0_0,
      k1_pay23 (arg2.view.readAt (Elt F) (Rect.unit (s := S1x768x256) ![0, 0, 0] S1x768x256.size inb_S1x768x256_S1x768x256_0_0_0).toLoadRect (harg2.unread x2))
        (arg7.view.readAt (Elt F) (Rect.unit (s := S1x768x256) ![0, 0, 0] S1x768x256.size inb_S1x768x256_S1x768x256_0_0_0).toLoadRect
          (arg7.view.writes (Elt F) f7 (pb_k1_t1 (F := F) Variants.none c none i arg2 harg2 arg3 harg3 arg4 harg4 arg5 harg5 arg6 harg6 arg7 harg7 arg8 harg8 arg9 harg9 arg10 harg10 (tileWord i) lanes (harg3.unread x3) (harg4.unread x4) (Scf.trips k1_t1_loop.lb k1_t1_loop.ub k1_t1_loop.st))))⟩]
    let s2 := st_k1_t2 (F := F) Variants.none c none i arg2 harg2 arg3 harg3 arg4 harg4 arg5 harg5 arg6 harg6 arg7 harg7 arg8 harg8 arg9 harg9 arg10 harg10 (harg5.unread x5) (harg9.unread xs) (arg10.view.writes (Elt F) arg10.view.junk H) 0#32 (Scf.trips (k1_t2_loop i).lb (k1_t2_loop i).ub (k1_t2_loop i).st)
    let s3 := st_k1_t3 (F := F) Variants.none c none i arg2 harg2 arg3 harg3 arg4 harg4 arg5 harg5 arg6 harg6 arg7 harg7 arg8 harg8 arg9 harg9 arg10 harg10 (harg5.unread x5) (harg9.unread xs) (arg10.view.writes (Elt F) arg10.view.junk (s2.2 ++ H)) s2.1 (Scf.trips (k1_t3_loop i).lb (k1_t3_loop i).ub (k1_t3_loop i).st)
    arg10.view.readAt (Elt F) (Rect.unit (s := S768x256) ![0, 0] S768x256.size inb_S768x256_S768x256_0_0).toLoadRect (arg10.view.writes (Elt F) arg10.view.junk (s3.2 ++ (s2.2 ++ H)))
      = resV i x2 x3 x4 x5 xs := by
  intro H s2 s3
  have t3 : Scf.trips (k1_t3_loop i).lb (k1_t3_loop i).ub (k1_t3_loop i).st = 0 := trips_t3 i
  have t2 : Scf.trips (k1_t2_loop i).lb (k1_t2_loop i).ub (k1_t2_loop i).st = (i 1).val := trips_t2 i
  have t1 : Scf.trips k1_t1_loop.lb k1_t1_loop.ub k1_t1_loop.st = 12 := by decide +kernel
  have h3 : s3.2 = [] := by show (st_k1_t3 _ _ _ _ _ _ _ _ _ _ _ _ _ _ _ _ _ _ _ _ _ _ _ _ _ _ _).2 = []; rw [t3]; rfl
  have eq : arg7.view.read (Elt F) (arg7.view.writes (Elt F) f7 (pb_k1_t1 (F := F) Variants.none c none i arg2 harg2 arg3 harg3 arg4 harg4 arg5 harg5 arg6 harg6 arg7 harg7 arg8 harg8 arg9 harg9 arg10 harg10 (tileWord i) lanes (harg3.unread x3) (harg4.unread x4) 12)) = qV i x3 x4 :=
    (read_gather _ _ _ i arg2 harg2 arg3 harg3 arg4 harg4 arg5 harg5 arg6 harg6 arg7 harg7 arg8 harg8 arg9 harg9 arg10 harg10 x3 x4 f7 12 (le_refl _)).trans (gatherV_all i x3 x4 _)
  have hu := read_update Variants.none c none i arg2 harg2 arg3 harg3 arg4 harg4 arg5 harg5 arg6 harg6 arg7 harg7 arg8 harg8 arg9 harg9 arg10 harg10 x5 xs (arg10.view.writes (Elt F) arg10.view.junk H) 0#32 (i 1).val (tile_lt i).le (trips_t2 i).ge
  rw [h3, List.nil_append, View.readAt_full, View.writes_append]
  show arg10.view.read (Elt F) (arg10.view.writes (Elt F) _ (st_k1_t2 _ _ _ _ _ _ _ _ _ _ _ _ _ _ _ _ _ _ _ _ _ _ _ _ _ _ _).2) = _
  rw [t2, hu]
  unfold resV
  congr 1
  show arg10.view.read (Elt F) (arg10.view.writes (Elt F) arg10.view.junk [_]) = _
  rw [View.read_writes_full, View.readAt_full, View.readAt_full, harg2.read_unread, t1, eq]

set_option maxHeartbeats 2000000 in
/-- The body of the solve, on whole memrefs: the values, the errors and the scratch it leaves. -/
theorem body_wp (c : Dev nD) (i : grid1.Coords) (arg2 : Memref sig .tc .vmem S1x768x256 .bf16) (harg2 : arg2.IsWhole) (arg3 : Memref sig .tc .vmem S1x768x128 .i8) (harg3 : arg3.IsWhole) (arg4 : Memref sig .tc .vmem S1x2x4x128 .i32) (harg4 : arg4.IsWhole) (arg5 : Memref sig .tc .vmem S5120x256 .f32) (harg5 : arg5.IsWhole) (arg6 : Memref sig .tc .vmem S1x3x256x256 .bf16) (harg6 : arg6.IsWhole) (arg7 : Memref sig .tc .vmem S1x768x256 .bf16) (harg7 : arg7.IsWhole) (arg8 : Memref sig .tc .vmem S1x768x256 .f32) (harg8 : arg8.IsWhole) (arg9 : Memref sig .tc .vmem S3x768x5120 .bf16) (harg9 : arg9.IsWhole) (arg10 : Memref sig .tc .vmem S768x256 .f32) (harg10 : arg10.IsWhole)
    (x2 : Vec F S1x768x256 .bf16) (x3 : Vec F S1x768x128 .i8) (x4 : Vec F S1x2x4x128 .i32) (x5 : Vec F S5120x256 .f32) (x6 : Vec F S1x3x256x256 .bf16) (xs : Vec F S3x768x5120 .bf16)
    (E : Set ℕ) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare xs ∗ (∃ d, owns (c : Thread nD τ) arg10 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (qV i x3 x4) ∗ owns (c : Thread nD τ) arg8 fullShare (errV (resV i x2 x3 x4 x5 xs) x6)
          ∗ owns (c : Thread nD τ) arg9 fullShare (scrV (i 1).val xs (err0 (resV i x2 x3 x4 x5 xs) x6) (err1 (resV i x2 x3 x4 x5 xs) x6) (err2 (resV i x2 x3 x4 x5 xs) x6)) ∗ (∃ d, owns (c : Thread nD τ) arg10 fullShare d)) -∗ Q ⟨⟩))
    ⊢ wp frame (wpE (defs₀ (F := F)) Variants.none c none) E (cc1_solve i arg2 harg2 arg3 harg3 arg4 harg4 arg5 harg5 arg6 harg6 arg7 harg7 arg8 harg8 arg9 harg9 arg10 harg10) Q := by
  simp only [cc1_solve_eq_skeleton]; unfold cc1_solve_skel
  simp only [k1_part7_eq_skeleton, k1_part8_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, Hk⟩
  obtain rfl := harg2.eq_unread hf2; obtain rfl := harg3.eq_unread hf3; obtain rfl := harg4.eq_unread hf4; obtain rfl := harg5.eq_unread hf5; obtain rfl := harg6.eq_unread hf6; obtain rfl := harg9.eq_unread hf9
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  have eq : arg7.view.read (Elt F) (arg7.view.writes (Elt F) f7 (pb_k1_t1 (F := F) Variants.none c none i arg2 harg2 arg3 harg3 arg4 harg4 arg5 harg5 arg6 harg6 arg7 harg7 arg8 harg8 arg9 harg9 arg10 harg10 (tileWord i) lanes (harg3.unread x3) (harg4.unread x4) 12)) = qV i x3 x4 :=
    (read_gather _ _ _ i arg2 harg2 arg3 harg3 arg4 harg4 arg5 harg5 arg6 harg6 arg7 harg7 arg8 harg8 arg9 harg9 arg10 harg10 x3 x4 f7 12 (le_refl _)).trans (gatherV_all i x3 x4 _)
  isplitl [H7]
  · iexists _; isplitr; swap; · iexact H7
    ipureintro; exact eq
  have ev : ∀ (p : ℕ) (hp : p < 3) (inb : ∀ a, (![0, p, 0, 0] : Fin 4 → ℕ) a + S1x1x256x256.size a ≤ S1x3x256x256.size a),
      arg6.view.readAt (Elt F) (Rect.unit (s := S1x3x256x256) ![0, p, 0, 0] S1x1x256x256.size inb).toLoadRect (harg6.unread x6) = pieceV x6 hp := fun p hp inb =>
    (View.readAt_unit (off' := ![0, p, 0, 0]) arg6.view (harg6.unread x6) _ rfl inb).trans (by rw [harg6.read_unread]; rfl)
  have e19 := read_acc c i arg2 harg2 arg3 harg3 arg4 harg4 arg5 harg5 arg6 harg6 arg7 harg7 arg8 harg8 arg9 harg9 arg10 harg10 x2 x3 x4 x5 xs f7
  isplitl [H8]
  · iexists _; isplitr; swap; · iexact H8
    ipureintro
    rw [View.read_writes_full]
    unfold errV
    rw [← e19, ← ev 0 (by decide) inb_S1x3x256x256_S1x1x256x256_0_0_0_0, ← ev 1 (by decide) inb_S1x3x256x256_S1x1x256x256_0_1_0_0, ← ev 2 (by decide) inb_S1x3x256x256_S1x1x256x256_0_2_0_0]
    rfl
  isplitl [H9]
  · iexists _; isplitr; swap; · iexact H9
    ipureintro
    rw [View.read_writes_cons_put _ _ _ _ _ (k1_off14_eq i), View.read_writes_cons_put _ _ _ _ _ (k1_off13_eq i), View.read_writes_cons_put _ _ _ _ _ (k1_off12_eq i),
      View.writes_nil, harg9.read_unread]
    unfold scrV err0 err1 err2
    rw [← e19, ← ev 0 (by decide) inb_S1x3x256x256_S1x1x256x256_0_0_0_0, ← ev 1 (by decide) inb_S1x3x256x256_S1x1x256x256_0_1_0_0, ← ev 2 (by decide) inb_S1x3x256x256_S1x1x256x256_0_2_0_0]
    rfl
  iexists _, _; isplitr; swap; · iexact H10
  ipureintro; rfl

end Cert.KernelIdeal.Solve

end
-- ==== Proof.SolveAgree.lean ====
module

public import proofs.«01_k».proof.Proof.SolveVal

@[expose] public section

set_option maxRecDepth 16384

noncomputable section

namespace Cert.KernelIdeal.Solve

open Idealize.ShloMosaic Idealize.ShloMosaic.TcCoe Idealize.ShloMosaic.Tactic Idealize.ShloMosaic.ValueIdx
open Cert.KernelIdeal.Gen

variable {F : FTy → Type} [FloatOps F]

/-- Two contents of the scratch that agree on the tiles below `b`. -/
def Agree (b : ℕ) (xs xs' : Vec F S3x768x5120 .bf16) : Prop := ∀ y : S3x768x5120.Idx, (y 2).val < 256 * b → xs y = xs' y

theorem agree_zero (xs xs' : Vec F S3x768x5120 .bf16) : Agree 0 xs xs' := fun y h => absurd h (by omega)

theorem window_agree {b : ℕ} {xs xs' : Vec F S3x768x5120 .bf16} (h : Agree b xs xs') {p j : ℕ} (hj : j < b)
    (inb : ∀ a, (![p, 0, 256 * j] : Fin 3 → ℕ) a + S1x768x256.size a ≤ S3x768x5120.size a) :
    VecWindow.window xs ![p, 0, 256 * j] S1x768x256.size inb = VecWindow.window xs' ![p, 0, 256 * j] S1x768x256.size inb := by
  funext y
  refine h _ ?_
  have e : (y 2).val < 256 := (y 2).isLt
  show 256 * j + 1 * (y 2).val < 256 * b
  omega

/-- The accumulator reads only the tiles below its own. -/
theorem accV_agree {b : ℕ} {xs xs' : Vec F S3x768x5120 .bf16} (h : Agree b xs xs') (x5 : Vec F S5120x256 .f32) (acc : Vec F S768x256 .f32) :
    ∀ (n : ℕ) (hn : n ≤ 20), n ≤ b → accV x5 xs acc n hn = accV x5 xs' acc n hn
  | 0, _, _ => rfl
  | n + 1, hn, hb => by
    unfold accV updAcc
    rw [accV_agree h x5 acc n (by omega) (by omega), window_agree h (by omega), window_agree h (by omega), window_agree h (by omega)]

theorem resV_agree {i : grid1.Coords} {xs xs' : Vec F S3x768x5120 .bf16} (h : Agree (i 1).val xs xs')
    (x2 : Vec F S1x768x256 .bf16) (x3 : Vec F S1x768x128 .i8) (x4 : Vec F S1x2x4x128 .i32) (x5 : Vec F S5120x256 .f32) :
    resV i x2 x3 x4 x5 xs = resV i x2 x3 x4 x5 xs' := by
  unfold resV
  exact accV_agree h x5 _ _ _ (le_refl _)

/-- A put over a column tile keeps two contents equal where they are equal. -/
theorem put_congr {xs xs' : Vec F S3x768x5120 .bf16} (off : Fin 3 → ℕ) (e : Vec F S1x768x256 .bf16) (y : S3x768x5120.Idx) (h : xs y = xs' y) :
    VecWindow.put xs off S1x768x256.size e y = VecWindow.put xs' off S1x768x256.size e y := by
  unfold VecWindow.put
  split
  · rfl
  · exact h

/-- After the pieces of tile `b` are stored, the contents agree on the tiles up to `b`. -/
theorem scrV_agree {b : ℕ} {xs xs' : Vec F S3x768x5120 .bf16} (h : Agree b xs xs') (e0 e1 e2 : Vec F S1x768x256 .bf16) :
    Agree (b + 1) (scrV b xs e0 e1 e2) (scrV b xs' e0 e1 e2) := by
  intro y hy
  unfold scrV
  by_cases hc : (y 2).val < 256 * b
  · exact put_congr _ _ _ (put_congr _ _ _ (put_congr _ _ _ (h y hc)))
  · have y0 : (y 0).val < 3 := (y 0).isLt
    have y1 : (y 1).val < 768 := (y 1).isLt
    have hin : ∀ p : ℕ, (y 0).val = p → ∀ a, (![p, 0, 256 * b] : Fin 3 → ℕ) a ≤ (y a).val ∧ (y a).val < (![p, 0, 256 * b] : Fin 3 → ℕ) a + S1x768x256.size a := fun p hp a =>
      match a with
      | 0 => ⟨by show p ≤ (y 0).val; omega, by show (y 0).val < p + 1; omega⟩
      | 1 => ⟨Nat.zero_le _, by show (y 1).val < 0 + 768; omega⟩
      | 2 => ⟨by show 256 * b ≤ (y 2).val; omega, by show (y 2).val < 256 * b + 256; omega⟩
    have hp : ∀ (p : ℕ) (z z' : Vec F S3x768x5120 .bf16) (e : Vec F S1x768x256 .bf16), (y 0).val = p →
        VecWindow.put z ![p, 0, 256 * b] S1x768x256.size e y = VecWindow.put z' ![p, 0, 256 * b] S1x768x256.size e y := fun p z z' e he => by
      unfold VecWindow.put
      rw [dif_pos (hin p he), dif_pos (hin p he)]
    have : (y 0).val = 0 ∨ (y 0).val = 1 ∨ (y 0).val = 2 := by omega
    rcases this with e | e | e
    · exact put_congr _ _ _ (put_congr _ _ _ (hp 0 _ _ _ e))
    · exact put_congr _ _ _ (hp 1 _ _ _ e)
    · exact hp 2 _ _ _ e

end Cert.KernelIdeal.Solve

end
-- ==== Proof.SolveRegion.lean ====
module

public import proofs.«01_k».proof.Proof.SolveRun
public import proofs.«01_k».proof.Proof.SolveAgree
public import proofs.«01_k».proof.Proof.Gen.KernelIdeal.Launch
public import proofs.«01_k».proof.Proof.Gen.KernelIdeal.Points

@[expose] public section

set_option maxRecDepth 16384

noncomputable section

namespace Cert.KernelIdeal.Solve

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : Valuation τ sig (Elt F))

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (W (Proc.devRef .tc (Pipeline.arrRef spec1 w)))

/-- What the accumulator holds at point `t` when the loops are done, from the scratch's contents `xs`. -/
def resAt (t : Fin cfg1.N) (xs : Vec F S3x768x5120 .bf16) : Vec F S768x256 .f32 :=
  resV (grid1.coords t) (iblk W 0 t) (iblk W 1 t) (iblk W 2 t) (iblk W 3 t) xs

/-- What the scratch holds after point `t`, from the contents `xs` before it. -/
def scrNext (t : Fin cfg1.N) (xs : Vec F S3x768x5120 .bf16) : Vec F S3x768x5120 .bf16 :=
  scrV (grid1.coords t 1).val xs (err0 (resAt W t xs) (iblk W 4 t)) (err1 (resAt W t xs) (iblk W 4 t)) (err2 (resAt W t xs) (iblk W 4 t))

/-- The scratch before point `n`, as far as the points below `n` of the same row of tiles decide it. -/
def scrAt : (n : ℕ) → n ≤ cfg1.N → Vec F S3x768x5120 .bf16
  | 0, _ => fun _ => FloatOps.ofBits .bf16 0
  | n + 1, h => scrNext W ⟨n, h⟩ (scrAt n (Nat.le_of_lt h))

/-- The invariant before point `n`: the scratch agrees with `scrAt` on the tiles that the current row of tiles has passed. -/
def Phi (c : Dev nD) (n : ℕ) (hn : n ≤ cfg1.N) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_scratch0), ((c : Thread nD τ).loc cc0_scratch0) ↦{fullShare} f))
    ∗ (∃ xs, owns (c : Thread nD τ) (Memref.whole cc1_scratch0 : Memref sig .tc .vmem S3x768x5120 .bf16) fullShare xs ∗ ⌜Agree (n % 20) xs (scrAt W n hn)⌝)
    ∗ (∃ d, owns (c : Thread nD τ) (Memref.whole cc1_scratch1 : Memref sig .tc .vmem S768x256 .f32) fullShare d)
    ∗ (∃ r, prngReg c r))

/-- The proof data of the solve's pipeline. -/
def dat (c : Dev nD) : Dat τ (Elt F) Unit ℕ (UR sig nD τ) ℕ cfg1 c where
  A w := W (Proc.devRef .tc (Pipeline.arrRef spec1 w))
  after w t := match w with
    | ⟨0, _⟩ => iblk W 0 t
    | ⟨1, _⟩ => iblk W 1 t
    | ⟨2, _⟩ => iblk W 2 t
    | ⟨3, _⟩ => iblk W 3 t
    | ⟨4, _⟩ => iblk W 4 t
    | ⟨5, _⟩ => qV (grid1.coords t) (iblk W 1 t) (iblk W 2 t)
    | ⟨6, _⟩ => errV (resAt W t (scrAt W t.val (Nat.le_of_lt t.isLt))) (iblk W 4 t)
  Φ t := Phi W c t.val (Nat.le_of_lt_succ t.isLt)
  q _ := fullShare
  owed _ := 0

theorem A_eq (c : Dev nD) (w : Fin cfg1.W) : (dat W c).A w = W (Proc.devRef .tc (Pipeline.arrRef spec1 w)) := by
  dsimp only [dat]

theorem after_0 (c : Dev nD) (t : Fin cfg1.N) : (dat W c).after 0 t = iblk W 0 t := by dsimp only [dat]
theorem after_1 (c : Dev nD) (t : Fin cfg1.N) : (dat W c).after 1 t = iblk W 1 t := by dsimp only [dat]
theorem after_2 (c : Dev nD) (t : Fin cfg1.N) : (dat W c).after 2 t = iblk W 2 t := by dsimp only [dat]
theorem after_3 (c : Dev nD) (t : Fin cfg1.N) : (dat W c).after 3 t = iblk W 3 t := by dsimp only [dat]
theorem after_4 (c : Dev nD) (t : Fin cfg1.N) : (dat W c).after 4 t = iblk W 4 t := by dsimp only [dat]
theorem after_5 (c : Dev nD) (t : Fin cfg1.N) : (dat W c).after 5 t = qV (grid1.coords t) (iblk W 1 t) (iblk W 2 t) := by dsimp only [dat]
theorem after_6 (c : Dev nD) (t : Fin cfg1.N) : (dat W c).after 6 t = errV (resAt W t (scrAt W t.val (Nat.le_of_lt t.isLt))) (iblk W 4 t) := by dsimp only [dat]

theorem before_0 (c : Dev nD) (t : Fin cfg1.N) (d) : (dat W c).before 0 t d = iblk W 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat W c).before 1 t d = iblk W 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat W c).before 2 t d = iblk W 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat W c).before 3 t d = iblk W 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat W c).before 4 t d = iblk W 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem Phi_castSucc (c : Dev nD) (t : Fin cfg1.N) : (dat W c).Φ t.castSucc = Phi W c t.val (Nat.le_of_lt t.isLt) := by
  dsimp only [dat]; rfl
theorem Phi_succ (c : Dev nD) (t : Fin cfg1.N) : (dat W c).Φ t.succ = Phi W c (t.val + 1) t.isLt := by
  dsimp only [dat]; rfl

abbrev ms_0 (t : Fin cfg1.N) : Memref sig .tc .vmem S1x768x256 .bf16 := win1_0.stage (cfg1.slots t 0)
abbrev ms_1 (t : Fin cfg1.N) : Memref sig .tc .vmem S1x768x128 .i8 := win1_1.stage (cfg1.slots t 1)
abbrev ms_2 (t : Fin cfg1.N) : Memref sig .tc .vmem S1x2x4x128 .i32 := win1_2.stage (cfg1.slots t 2)
abbrev ms_3 (t : Fin cfg1.N) : Memref sig .tc .vmem S5120x256 .f32 := win1_3.stage (cfg1.slots t 3)
abbrev ms_4 (t : Fin cfg1.N) : Memref sig .tc .vmem S1x3x256x256 .bf16 := win1_4.stage (cfg1.slots t 4)
abbrev ms_5 (t : Fin cfg1.N) : Memref sig .tc .vmem S1x768x256 .bf16 := win1_5.stage (cfg1.slots t 5)
abbrev ms_6 (t : Fin cfg1.N) : Memref sig .tc .vmem S1x768x256 .f32 := win1_6.stage (cfg1.slots t 6)

/-- What the body is called with at point `t`, -/
def bodyPre (c : Dev nD) (t : Fin cfg1.N) : sProp 𝕄 :=
  iprop((dat W c).Φ t.castSucc ∗ (dat W c).owesAt () t.castSucc
    ∗ (∃ d, owns (c : Thread nD τ) (ms_0 t) fullShare ((dat W c).before 0 t d))
    ∗ (∃ d, owns (c : Thread nD τ) (ms_1 t) fullShare ((dat W c).before 1 t d))
    ∗ (∃ d, owns (c : Thread nD τ) (ms_2 t) fullShare ((dat W c).before 2 t d))
    ∗ (∃ d, owns (c : Thread nD τ) (ms_3 t) fullShare ((dat W c).before 3 t d))
    ∗ (∃ d, owns (c : Thread nD τ) (ms_4 t) fullShare ((dat W c).before 4 t d))
    ∗ (∃ d, owns (c : Thread nD τ) (ms_5 t) fullShare ((dat W c).before 5 t d))
    ∗ (∃ d, owns (c : Thread nD τ) (ms_6 t) fullShare ((dat W c).before 6 t d)))

/-- and what it returns. -/
def bodyPost (c : Dev nD) (t : Fin cfg1.N) : sProp 𝕄 :=
  iprop((dat W c).Φ t.succ ∗ (dat W c).owesAt () t.succ
    ∗ owns (c : Thread nD τ) (ms_0 t) fullShare ((dat W c).after 0 t)
    ∗ owns (c : Thread nD τ) (ms_1 t) fullShare ((dat W c).after 1 t)
    ∗ owns (c : Thread nD τ) (ms_2 t) fullShare ((dat W c).after 2 t)
    ∗ owns (c : Thread nD τ) (ms_3 t) fullShare ((dat W c).after 3 t)
    ∗ owns (c : Thread nD τ) (ms_4 t) fullShare ((dat W c).after 4 t)
    ∗ owns (c : Thread nD τ) (ms_5 t) fullShare ((dat W c).after 5 t)
    ∗ owns (c : Thread nD τ) (ms_6 t) fullShare ((dat W c).after 6 t))

theorem coord_tile (t : Fin cfg1.N) : (grid1.coords t 1).val = t.val % 20 :=
  (Pipeline.Grid.coords_val t 1 (by decide) rfl : (grid1.coords t 1).val = t.val / 1 % 20).trans (by rw [Nat.div_one])

/-- The scratch after the point agrees with `scrAt` on one tile more, or a new row of tiles begins. -/
theorem agree_next (t : Fin cfg1.N) {xs : Vec F S3x768x5120 .bf16} (h : Agree (t.val % 20) xs (scrAt W t.val (Nat.le_of_lt t.isLt))) :
    Agree ((t.val + 1) % 20) (scrNext W t xs) (scrAt W (t.val + 1) t.isLt) := by
  have hr : resAt W t xs = resAt W t (scrAt W t.val (Nat.le_of_lt t.isLt)) := resV_agree (by rw [coord_tile]; exact h) _ _ _ _
  by_cases hz : (t.val + 1) % 20 = 0
  · rw [hz]; exact agree_zero _ _
  · rw [show (t.val + 1) % 20 = t.val % 20 + 1 by omega]
    show Agree _ (scrNext W t xs) (scrNext W t (scrAt W t.val (Nat.le_of_lt t.isLt)))
    unfold scrNext
    rw [hr, coord_tile]
    exact scrV_agree h _ _ _

set_option maxHeartbeats 1000000 in
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4]
  rw [show (dat W c).owesAt () t.succ = (dat W c).owesAt () t.castSucc from rfl,
    after_0, after_1, after_2, after_3, after_4, after_5, after_6, Phi_castSucc, Phi_succ]
  unfold Phi
  iintro ⟨⟨Hst, ⟨%xs, HS, %hxs⟩, HA, Hg⟩, Ho, ⟨%d0, H0⟩, ⟨%d1, H1⟩, ⟨%d2, H2⟩, ⟨%d3, H3⟩, ⟨%d4, H4⟩, ⟨%d5, H5⟩, ⟨%d6, H6⟩⟩
  have hr : resAt W t xs = resAt W t (scrAt W t.val (Nat.le_of_lt t.isLt)) := resV_agree (by rw [coord_tile]; exact hxs) _ _ _ _
  iapply (body_wp c (grid1.coords t) _ _ _ _ _ _ _ _ _ _ _ _ _ _ _ _ _ _ (iblk W 0 t) (iblk W 1 t) (iblk W 2 t) (iblk W 3 t) (iblk W 4 t) xs Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  isplitl [HA]; · iexact HA
  iintro ⟨H0, H1, H2, H3, H4, H5, H6, HS, HA⟩
  isplitl [Hst HS HA Hg]
  · isplitl [Hst]; · iexact Hst
    isplitl [HS]
    · iexists (scrNext W t xs)
      isplitl [HS]; · iexact HS
      ipureintro; exact agree_next W t hxs
    isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [← hr]
  iexact H6

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

/-- The scoped buffers and the generator's register give the invariant before the first point, -/
theorem phi_in (c : Dev nD) : iprop(Pipeline.scopedRest spec1 c ∗ (∃ r, prngReg c r)) ⊢ (dat (F := F) W c).Φ 0 := by
  show _ ⊢ Phi W c 0 _
  unfold Phi
  rw [scopedRest1_eq]
  iintro ⟨⟨A, B, C, D, E, ⟨%f, HS⟩, ⟨%g, HA⟩⟩, Hg⟩
  isplitl [A B C D E]
  · isplitl [A]; · iexact A
    isplitl [B]; · iexact B
    isplitl [C]; · iexact C
    isplitl [D]; · iexact D
    iexact E
  isplitl [HS]
  · iexists f
    isplitl [HS]
    · iapply (Entails.of_eq (owns_whole (c : Thread nD τ) cc1_scratch0 fullShare f).symm)
      iexact HS
    ipureintro; exact agree_zero _ _
  isplitl [HA]
  · iexists g
    iapply (Entails.of_eq (owns_whole (c : Thread nD τ) cc1_scratch1 fullShare g).symm)
    iexact HA
  iexact Hg

/-- and the invariant after the last gives them back. -/
theorem phi_out (c : Dev nD) : (dat (F := F) W c).Φ (Fin.last cfg1.N) ⊢ iprop(Pipeline.scopedRest spec1 c ∗ (∃ r, prngReg c r)) := by
  show Phi W c _ _ ⊢ _
  unfold Phi
  rw [scopedRest1_eq]
  iintro ⟨⟨A, B, C, D, E⟩, ⟨%f, HS, -⟩, ⟨%g, HA⟩, Hg⟩
  isplitl [A B C D E HS HA]
  · isplitl [A]; · iexact A
    isplitl [B]; · iexact B
    isplitl [C]; · iexact C
    isplitl [D]; · iexact D
    isplitl [E]; · iexact E
    isplitl [HS]
    · iexists f
      iapply (Entails.of_eq (owns_whole (c : Thread nD τ) cc1_scratch0 fullShare f))
      iexact HS
    iexists g
    iapply (Entails.of_eq (owns_whole (c : Thread nD τ) cc1_scratch1 fullShare g))
    iexact HA
  iexact Hg

end Cert.KernelIdeal.Solve

end
-- ==== Proof.Run.lean ====
module

public import proofs.«01_k».proof.Proof.InvRegion
public import proofs.«01_k».proof.Proof.SolveRegion
public import proofs.«01_k».proof.Proof.Gen.KernelIdeal.Regions
public import Idealize.ShloMosaic.Lib.Pipeline.RegionArraysS

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's buffers at launch, -/
abbrev W0 (c : Dev nD) : Valuation τ sig (Elt F) := fun b => m (c, b)
/-- after the host operations, -/
def W1 (c : Dev nD) : Valuation τ sig (Elt F) := StableHlo.after hostOps0 (W0 m c)
/-- after the inversion of the diagonal blocks, -/
def W2 (c : Dev nD) : Valuation τ sig (Elt F) := Pipeline.afterRegion (Inv.dat (W1 m c) c) (W1 m c)
/-- and after the solve. -/
def W3 (c : Dev nD) : Valuation τ sig (Elt F) := Pipeline.afterRegion (Solve.dat (W2 m c) c) (W2 m c)

/-- The two pipelines' proof data. -/
def pdats : (p : Fin 2) → (c : Dev nD) → Dat τ (Elt F) Unit ℕ (UR sig nD τ) ℕ (Pipeline.pin (pcfgs (F := F)) adm p) c
  | 0 => fun c => Inv.dat (W1 m c) c
  | 1 => fun c => Solve.dat (W2 m c) c

abbrev L : GSem nD τ sig → Finset Unit := fun g => if g.1.2 = .tc then {()} else ∅
abbrev lv : GSem nD τ sig → Unit → ℕ := fun _ _ => 0
abbrev D : Dev nD → CellTallies nD τ sig Unit := fun _ => 0

theorem cut (p : Fin 2) : Pipeline.LevelCut (pcfgs (F := F)) adm () L lv p D (fun _ => 0) where
  hι _ _ _ := by
    show () ∈ (if (_ : Proc τ) = .tc then ({()} : Finset Unit) else ∅)
    rw [if_pos rfl]; exact Finset.mem_singleton_self _
  hιb _ _ _ := le_refl 0
  hD _ _ _ h := absurd h (Nat.lt_irrefl 0)

/-- The generator's register rides beside the buffers. -/
abbrev X (c : Dev nD) : sProp 𝕄 := iprop(∃ r, prngReg c r)
abbrev R (c : Dev nD) : sProp 𝕄 := iprop(emp)

set_option backward.isDefEq.respectTransparency.types false in
/-- The inversion's region. -/
def reg0 : RegionSeg (pcfgs (F := F)) adm (pdats m) () defs₀ Variants.none L lv 0 :=
  RegionSeg.ofHeldIn (pcfgs (F := F)) adm (pdats m) () defs₀ Variants.none L lv 0 D (Pipeline.ucRefs τ sig) X X launch0.toP rfl
    (fun c => (Inv.body_obligation (W1 m c) c).loose) (fun _ _ => rfl) (fun _ => rfl)
    (fun c => (Inv.dat (W1 m c) c).share_full fun _ => rfl)
    (fun c => .rfl) (fun c => .rfl) (fun _ => 0) (cut 0) R (W1 m) (fun c w => Inv.A_eq (W1 m c) c w)

set_option backward.isDefEq.respectTransparency.types false in
/-- The solve's region. -/
def reg1 : RegionSeg (pcfgs (F := F)) adm (pdats m) () defs₀ Variants.none L lv 1 :=
  RegionSeg.ofHeldIn (pcfgs (F := F)) adm (pdats m) () defs₀ Variants.none L lv 1 D (Pipeline.ucRefs τ sig) X X launch1.toP rfl
    (fun c => (Solve.body_obligation (W2 m c) c).loose) (fun _ _ => rfl) (fun _ => rfl)
    (fun c => (Solve.dat (W2 m c) c).share_full fun _ => rfl)
    (fun c => Solve.phi_in (W2 m c) c) (fun c => Solve.phi_out (W2 m c) c) (fun _ => 0) (cut 1) R (W2 m) (fun c w => Solve.A_eq (W2 m c) c w)

/-- What rides beside the buffers between segments. -/
abbrev E (_ : Fin 3) (c : Dev nD) : sProp 𝕄 := iprop((∃ Wd, owes (c : Thread nD τ) (D c) Wd) ∗ X c ∗ R c)

theorem sub0 : Pipeline.arrRefs (τ := τ) spec0 ⊆ Pipeline.ucRefs τ sig := Pipeline.arrRefs_sub_ucRefs spec0 winFacts0.arr_unscoped
theorem sub1 : Pipeline.arrRefs (τ := τ) spec1 ⊆ Pipeline.ucRefs τ sig := Pipeline.arrRefs_sub_ucRefs spec1 winFacts1.arr_unscoped

set_option backward.isDefEq.respectTransparency.types false in
theorem pre0 (c : Dev nD) : iprop(StableHlo.held (c : Thread nD τ) (Pipeline.ucRefs τ sig) (W1 m c) ∗ E 0 c) ⊢ (reg0 m).pre c :=
  RegionSeg.ofHeldIn_pre sub0 c
set_option backward.isDefEq.respectTransparency.types false in
theorem post0 (c : Dev nD) : (reg0 m).post c ⊢ iprop(StableHlo.held (c : Thread nD τ) (Pipeline.ucRefs τ sig) (W2 m c) ∗ E 1 c) :=
  RegionSeg.ofHeldIn_post sub0 c
set_option backward.isDefEq.respectTransparency.types false in
theorem pre1 (c : Dev nD) : iprop(StableHlo.held (c : Thread nD τ) (Pipeline.ucRefs τ sig) (W2 m c) ∗ E 1 c) ⊢ (reg1 m).pre c :=
  RegionSeg.ofHeldIn_pre (pcs := pcfgs (F := F)) (a := adm) (pdats := pdats m) (ι := ()) (defs₀ := defs₀) (𝒱₀ := Variants.none) (L := L) (lv := lv) (p := 1) (D := D) (S := Pipeline.ucRefs τ sig) sub1 (X := X) (Y := X) (R := R) (W := W2 m) c
set_option backward.isDefEq.respectTransparency.types false in
theorem post1 (c : Dev nD) : (reg1 m).post c ⊢ iprop(StableHlo.held (c : Thread nD τ) (Pipeline.ucRefs τ sig) (W3 m c) ∗ E 2 c) :=
  RegionSeg.ofHeldIn_post (pcs := pcfgs (F := F)) (a := adm) (pdats := pdats m) (ι := ()) (defs₀ := defs₀) (𝒱₀ := Variants.none) (L := L) (lv := lv) (p := 1) (D := D) (S := Pipeline.ucRefs τ sig) sub1 (X := X) (Y := X) (R := R) (W := W2 m) c

set_option backward.isDefEq.respectTransparency.types false in
/-- Every execution ends, with every unscoped buffer as `W3` says and every counter at zero. -/
theorem run_all : θ_run defs (onTc (τ := τ) (main (F := F))) ⟨m, fun _ => 0, ρ⟩ (fun r => (∀ c : Dev nD,
      ∀ b ∈ Pipeline.ucRefs τ sig, r.2.mem (c, b) = W3 m c b) ∧ r.2.sem = fun _ => 0) := by
  refine Pipeline.θ_run_regions_kit_dev_sems (pcfgs (F := F)) adm (pdats m) () cellOf_inj emb₁ defs₀ Variants.none L lv m ρ main
    (segs m Variants.none L lv E () (pdats m) (reg0 m) (reg1 m))
    (fun c Q => by
      rewrite [main_chain c, Pipeline.Seg.run_eq_chain,
        show (segs m Variants.none L lv E () (pdats m) (reg0 m) (reg1 m) c).map Pipeline.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (O₀ := 0) (hL := fun g h => if_neg h) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E 0 c))
    (Tₙ := fun c => StableHlo.held (c : Thread nD τ) (Pipeline.ucRefs τ sig) (W3 m c))
    (hch := fun c => ⟨.rfl, pre0 m c, (post0 m c).trans (pre1 m c), (post1 m c).trans (sep_mono .rfl (by iintro ⟨HO, -⟩; iexact HO))⟩)
    (hinit := ?_) (QY := fun c s => ∀ b ∈ Pipeline.ucRefs τ sig, s.mem (c, b) = W3 m c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    imodintro
    iapply (pointsTo_read_all (Pipeline.ucRefs τ sig) (fun b => ((c : Thread nD τ).1, b)) (W3 m c) s')
    isplitl [Hh] <;> iassumption

theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- A reference that no host operation writes and that is no output of a region ends as launched. -/
theorem W2_keeps (c : Dev nD) (r : Ref sig .tc) (h : r ∉ hostOps0_W) (h0 : ∀ w, Pipeline.arrRef spec0 w = r → (cfg0.win w).isOut = false) :
    W2 m c (Proc.devRef .tc r) = m ((c : Thread nD τ).loc r) :=
  (Pipeline.afterRegion_keeps (Inv.dat (W1 m c) c) (W1 m c) winFacts0.arr_inj (Inv.A_eq (W1 m c) c) r h0).trans (V1_of m c r h)

theorem W3_keeps (c : Dev nD) (r : Ref sig .tc) (h : r ∉ hostOps0_W) (h0 : ∀ w, Pipeline.arrRef spec0 w = r → (cfg0.win w).isOut = false)
    (h1 : ∀ w, Pipeline.arrRef spec1 w = r → (cfg1.win w).isOut = false) : W3 m c (Proc.devRef .tc r) = m ((c : Thread nD τ).loc r) :=
  (Pipeline.afterRegion_keeps (Solve.dat (W2 m c) c) (W2 m c) winFacts1.arr_inj (Solve.A_eq (W2 m c) c) r h1).trans (W2_keeps m c r h h0)

/-- What the two results hold at the end. -/
theorem W3_q (c : Dev nD) : W3 m c (Proc.devRef .tc main_v9_0) = (Solve.dat (W2 m c) c).arrAt 5 cfg1.N :=
  Pipeline.afterRegion_arr (Solve.dat (W2 m c) c) (W2 m c) winFacts1.arr_inj 5
theorem W3_err (c : Dev nD) : W3 m c (Proc.devRef .tc main_v9_1) = (Solve.dat (W2 m c) c).arrAt 6 cfg1.N :=
  Pipeline.afterRegion_arr (Solve.dat (W2 m c) c) (W2 m c) winFacts1.arr_inj 6

/-- Every execution ends, the two results as the solve's pipeline leaves them, the arguments as launched and every counter at zero. -/
theorem run : θ_run defs (onTc (τ := τ) (main (F := F))) ⟨m, fun _ => 0, ρ⟩ (fun r => (∀ c : Dev nD,
      (r.2.mem ((c.tc : Thread nD τ).loc main_v9_0) = (Solve.dat (W2 m c) c).arrAt 5 cfg1.N
      ∧ r.2.mem ((c.tc : Thread nD τ).loc main_v9_1) = (Solve.dat (W2 m c) c).arrAt 6 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨⟨(h.1 c _ (mem_uc main_v9_0 (by decide))).trans (W3_q m c), (h.1 c _ (mem_uc main_v9_1 (by decide))).trans (W3_err m c)⟩,
      (h.1 c _ (mem_uc main_arg0 (by decide))).trans (W3_keeps m c main_arg0 (by decide) (by decide) (by decide)),
      (h.1 c _ (mem_uc main_arg1 (by decide))).trans (W3_keeps m c main_arg1 (by decide) (by decide) (by decide)),
      (h.1 c _ (mem_uc main_arg2 (by decide))).trans (W3_keeps m c main_arg2 (by decide) (by decide) (by decide)),
      (h.1 c _ (mem_uc main_arg3 (by decide))).trans (W3_keeps m c main_arg3 (by decide) (by decide) (by decide))⟩, h.2⟩) (run_all m ρ)

/-- The arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h.1 c).2, h.2⟩) (run m ρ)

end Cert.KernelIdeal.Run

end
-- ==== Proof.KFrame.lean ====
module

public import proofs.«01_k».proof.Proof.Run
public import proofs.«01_k».proof.Proof.Gen.Kernel

@[expose] public section

set_option maxRecDepth 16384

noncomputable section

namespace Cert.Kernel.Frame

open Idealize.ShloMosaic Idealize.ShloMosaic.TcCoe Idealize.SL Idealize.SL.Sem

variable {F : FTy → Type} [FloatOps F]

theorem b0 : Cert.Kernel.win0_0 = Cert.KernelIdeal.win0_0 := rfl
theorem b1 : Cert.Kernel.win0_1 = Cert.KernelIdeal.win0_1 := rfl
theorem a1 : Cert.Kernel.cfg0 = Cert.KernelIdeal.cfg0 := rfl
theorem a2 : Cert.Kernel.cfg1 = Cert.KernelIdeal.cfg1 := rfl
theorem a3 : Cert.Kernel.defs₀ (F := F) = Cert.KernelIdeal.defs₀ (F := F) := by
  unfold Cert.Kernel.defs₀ Cert.KernelIdeal.defs₀
  refine congrArg Defs.onTc (funext fun l => ?_)
  match l with
  | 0 => rfl
  | 1 => rfl
theorem a4 : Cert.Kernel.pcfgs (F := F) = Cert.KernelIdeal.pcfgs (F := F) := rfl

theorem a5 : Cert.Kernel.main (F := F) = Cert.KernelIdeal.main (F := F) := by
  funext c
  rfl
theorem a6 : Cert.Kernel.defs (F := F) = Cert.KernelIdeal.defs (F := F) := by
  unfold Cert.Kernel.defs Cert.KernelIdeal.defs
  rw [a3]
  rfl

/-- The kernel as printed for the machine's floats ends with its arguments unchanged and every semaphore at zero: it
is, operation for operation, the ideal kernel's program, whose run is generic in the floats. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := Cert.KernelIdeal.Run.frame (F := F) m ρ
  rw [← a5, ← a6] at h
  exact h

end Cert.Kernel.Frame

end
-- ==== Proof.KBlocks.lean ====
module

public import proofs.«01_k».proof.Proof.Run
public import Idealize.ShloMosaic.Lib.Pipeline.ValueKit.Geometry
public import Idealize.ShloMosaic.Lib.Pointwise

@[expose] public section

set_option maxRecDepth 16384

noncomputable section

/-! Blocks of the two calls' windows, read off their arrays at coordinates. -/

namespace Cert.KernelIdeal.Run

open Idealize.ShloMosaic Idealize.ShloMosaic.TcCoe Idealize.ShloMosaic.Pipeline
open Cert.KernelIdeal.Gen

variable (W : Valuation τ sig (Elt Ideal))

/-- The blocks' numbers at each point of the second call's grid. -/
theorem idx1 : ∀ t : Fin cfg1.N, win1_0.index t = ![t.val / 40, t.val / 20 % 2, t.val % 20] ∧ win1_1.index t = ![t.val / 40, t.val / 20 % 2, t.val % 20 / 2]
    ∧ win1_2.index t = ![t.val / 40, t.val % 20, 0, 0] ∧ win1_3.index t = ![0, t.val % 20] ∧ win1_4.index t = ![t.val % 20, 0, 0, 0]
    ∧ win1_5.index t = ![t.val / 40, t.val / 20 % 2, t.val % 20] ∧ win1_6.index t = ![t.val / 40, t.val / 20 % 2, t.val % 20] :=
  (by decide +kernel : ∀ t : Fin grid1.N, _)

/-- The same of the first call's. -/
theorem idx0 : ∀ t : Fin cfg0.N, win0_0.index t = ![t.val, t.val] ∧ win0_1.index t = ![t.val, 0, 0, 0] :=
  (by decide +kernel : ∀ t : Fin grid0.N, _)

theorem lt1 (t : Fin cfg1.N) : t.val < 200 := t.isLt
theorem lt0 (t : Fin cfg0.N) : t.val < 20 := t.isLt

/-- The matrix of a point, the row of the stack of matrices and the column that a block's entry lies at. -/
def mat (t : Fin cfg1.N) : Fin 5 := ⟨t.val / 40, by have := lt1 t; omega⟩
def row (t : Fin cfg1.N) (r : Fin 768) : Fin 1536 := ⟨768 * (t.val / 20 % 2) + r.val, by omega⟩
def col (t : Fin cfg1.N) (j : Fin 256) : Fin 5120 := ⟨256 * (t.val % 20) + j.val, by omega⟩

theorem blk1_0 (t : Fin cfg1.N) (r : Fin 768) (j : Fin 256) : Solve.iblk W 0 t (ix3 0 r j) = W (Proc.devRef .tc main_arg0) (ix3 (mat t) (row t r) (col t j)) := by
  blk_simp [Solve.iblk]
  congr 1
  blk_ext [idx1 t, mat, row, col]

theorem blk1_1 (t : Fin cfg1.N) (r : Fin 768) (j : Fin 128) : Solve.iblk W 1 t (ix3 0 r j)
    = W (Proc.devRef .tc main_arg1) (ix3 (mat t) (row t r) (⟨128 * (t.val % 20 / 2) + j.val, by omega⟩ : Fin 1280)) := by
  blk_simp [Solve.iblk]
  congr 1
  blk_ext [idx1 t, mat, row, col]

theorem blk1_2 (t : Fin cfg1.N) (h : Fin 2) (w : Fin 4) (k : Fin 128) : Solve.iblk W 2 t (ix4 0 h w k)
    = W (Proc.devRef .tc main_v7) (ix4 (mat t) (⟨2 * (t.val % 20) + h.val, by omega⟩ : Fin 40) w k) := by
  blk_simp [Solve.iblk]
  congr 1
  blk_ext [idx1 t, mat, row, col]

theorem blk1_3 (t : Fin cfg1.N) (k : Fin 5120) (j : Fin 256) : Solve.iblk W 3 t (ix2 k j) = W (Proc.devRef .tc main_arg3) (ix2 k (col t j)) := by
  blk_simp [Solve.iblk]
  congr 1
  blk_ext [idx1 t, mat, row, col]

theorem blk1_4 (t : Fin cfg1.N) (p : Fin 3) (k j : Fin 256) : Solve.iblk W 4 t (ix4 0 p k j) = W (Proc.devRef .tc main_v8) (ix4 (⟨t.val % 20, by omega⟩ : Fin 20) p k j) := by
  blk_simp [Solve.iblk]
  congr 1
  blk_ext [idx1 t, mat, row, col]

theorem blk0_0 (t : Fin cfg0.N) (k j : Fin 256) : Inv.iblk W 0 t (ix2 k j)
    = W (Proc.devRef .tc main_arg3) (ix2 (⟨256 * t.val + k.val, by have := lt0 t; omega⟩ : Fin 5120) (⟨256 * t.val + j.val, by have := lt0 t; omega⟩ : Fin 5120)) := by
  blk_simp [Inv.iblk]
  congr 1
  blk_ext [idx0 t]

theorem cov1_5 : (cfg1.win 5).Covers := by decide +kernel
theorem cov1_6 : (cfg1.win 6).Covers := by decide +kernel
theorem cov0_1 : (cfg0.win 1).Covers := by decide +kernel

/-- What holds of every block of the values at its place holds of the array of values. -/
theorem q_forall (c : Dev nD) (P : Fin 5 → Fin 1536 → Fin 5120 → EReal → Prop)
    (h : ∀ (t : Fin cfg1.N) (r : Fin 768) (j : Fin 256), P (mat t) (row t r) (col t j) (Solve.qV (grid1.coords t) (Solve.iblk W 1 t) (Solve.iblk W 2 t) (ix3 0 r j)))
    (m : Fin 5) (r : Fin 1536) (j : Fin 5120) : P m r j ((Solve.dat W c).arrAt 5 cfg1.N (ix3 m r j)) := by
  refine Dat.arrAt_forall_of_covers (Solve.dat W c) 5 (fun i x => P (i 0) (i 1) (i 2) x) cov1_5 (fun t hf y => ?_) (ix3 m r j)
  idx_vars y
  blk_simp
  rw [Solve.after_5]
  obtain rfl : y0 = 0 := Subsingleton.elim _ _
  rw [show (win1_5.blk t).view.emb (ix3 0 y1 y2) = ix3 (mat t) (row t y1) (col t y2) from by blk_ext [idx1 t, mat, row, col]]
  exact h t y1 y2

/-- The same of the array of errors. -/
theorem err_forall (c : Dev nD) (P : Fin 5 → Fin 1536 → Fin 5120 → EReal → Prop)
    (h : ∀ (t : Fin cfg1.N) (r : Fin 768) (j : Fin 256), P (mat t) (row t r) (col t j)
      (Solve.errV (Solve.resAt W t (Solve.scrAt W t.val (Nat.le_of_lt t.isLt))) (Solve.iblk W 4 t) (ix3 0 r j)))
    (m : Fin 5) (r : Fin 1536) (j : Fin 5120) : P m r j ((Solve.dat W c).arrAt 6 cfg1.N (ix3 m r j)) := by
  refine Dat.arrAt_forall_of_covers (Solve.dat W c) 6 (fun i x => P (i 0) (i 1) (i 2) x) cov1_6 (fun t hf y => ?_) (ix3 m r j)
  idx_vars y
  blk_simp
  rw [Solve.after_6]
  obtain rfl : y0 = 0 := Subsingleton.elim _ _
  rw [show (win1_6.blk t).view.emb (ix3 0 y1 y2) = ix3 (mat t) (row t y1) (col t y2) from by blk_ext [idx1 t, mat, row, col]]
  exact h t y1 y2

/-- The same of the array of inverses. -/
theorem inv_forall (c : Dev nD) (P : Fin 20 → Fin 3 → Fin 256 → Fin 256 → EReal → Prop)
    (h : ∀ (t : Fin cfg0.N) (p : Fin 3) (k j : Fin 256), P t p k j (Inv.invOut (Inv.iblk W 0 t) (ix4 0 p k j)))
    (t : Fin 20) (p : Fin 3) (k j : Fin 256) : P t p k j ((Inv.dat W c).arrAt 1 cfg0.N (ix4 t p k j)) := by
  refine Dat.arrAt_forall_of_covers (Inv.dat W c) 1 (fun i x => P (i 0) (i 1) (i 2) (i 3) x) cov0_1 (fun t hf y => ?_) (ix4 t p k j)
  idx_vars y
  blk_simp
  rw [Inv.after_1]
  obtain rfl : y0 = 0 := Subsingleton.elim _ _
  rw [show (win0_1.blk t).view.emb (ix4 0 y1 y2 y3) = ix4 (t : Fin 20) y1 y2 y3 from by blk_ext [idx0 t]]
  exact h t y1 y2 y3

end Cert.KernelIdeal.Run

end
-- ==== Proof.Gather.lean ====
module

public import proofs.«01_k».proof.Proof.SolveVal
public import Idealize.ShloMosaic.Lib.Pointwise

@[expose] public section

set_option maxRecDepth 16384

noncomputable section

/-! The gather of the second call's body, read at an index. -/

namespace Cert.KernelIdeal.Solve

open Idealize.ShloMosaic Idealize.ShloMosaic.TcCoe
open Cert.KernelIdeal.Gen

/-- The 32-bit word a code and the packed word it picks stand for: the high half of the packed word for a code of 128 or more, else its low half. -/
def valueWord (c : BitVec 8) (w : BitVec 32) : BitVec 32 := if 128 ≤ c.toNat then w &&& 4294901760#32 else w <<< 16

theorem coord_lt (i : grid1.Coords) : (i 1).val < 20 := (i 1).isLt

theorem bit1 : ∀ l : Fin 128, IntOp.cmpi .eq (IntOp.andi (BitVec.ofNat 32 l.val) 1#32) 0#32 = if l.val % 2 = 0 then 1#1 else 0#1 := by decide +kernel

theorem bit2 : ∀ l : Fin 128, IntOp.cmpi .eq (IntOp.andi (BitVec.ofNat 32 l.val) 2#32) 0#32 = if l.val % 4 < 2 then 1#1 else 0#1 := by decide +kernel

theorem code_lane : ∀ n < 256, (Scalar.select (IntOp.cmpi .slt (IntOp.andi (BitVec.setWidth 32 (BitVec.ofNat 8 n)) 127#32) 0#32)
    (IntOp.addi (IntOp.andi (BitVec.setWidth 32 (BitVec.ofNat 8 n)) 127#32) 128#32) (IntOp.andi (BitVec.setWidth 32 (BitVec.ofNat 8 n)) 127#32)).toNat % 128 = n % 128 := by decide +kernel

theorem code_high : ∀ n < 256, IntOp.cmpi .sge (BitVec.setWidth 32 (BitVec.ofNat 8 n)) 128#32 = if 128 ≤ n then 1#1 else 0#1 := by decide +kernel

theorem code_lane' (c : BitVec 8) : (Scalar.select (IntOp.cmpi .slt (IntOp.andi (BitVec.setWidth 32 c) 127#32) 0#32)
    (IntOp.addi (IntOp.andi (BitVec.setWidth 32 c) 127#32) 128#32) (IntOp.andi (BitVec.setWidth 32 c) 127#32)).toNat % 128 = c.toNat % 128 := by
  have h := code_lane c.toNat c.isLt
  rwa [BitVec.ofNat_toNat, BitVec.setWidth_eq] at h

theorem code_high' (c : BitVec 8) : IntOp.cmpi .sge (BitVec.setWidth 32 c) 128#32 = if 128 ≤ c.toNat then 1#1 else 0#1 := by
  have h := code_high c.toNat c.isLt
  rwa [BitVec.ofNat_toNat, BitVec.setWidth_eq] at h

theorem pay2_at (x : Vec Ideal S1x64x128 .i8) (r : Fin 64) (l : Fin 128) : k1_pay2 (F := Ideal) x (ix2 r l) = BitVec.setWidth 32 (x (ix3 0 r l)) := by
  pointwise [k1_pay2]

theorem pay6_at (i : grid1.Coords) (v73 : IVec S64x128 32) (r : Fin 64) (l : Fin 128) :
    k1_pay6 v73 (codeOff (tileWord i)) (k1_pay3 lanes) (k1_pay4 lanes) (k1_pay5 lanes) (ix2 r l) = v73 (ix2 r ⟨64 * ((i 1).val % 2) + l.val / 4, by omega⟩) := by
  pointwise [k1_pay6, k1_pay3, k1_pay4, k1_pay5, lanes]
  congr 2
  apply Fin.ext
  dsimp only
  have hb := coord_lt i
  unfold tileWord
  generalize (i 1).val = b at hb ⊢
  revert l b
  decide +kernel

theorem pay15_at (i : grid1.Coords) (v73 : IVec S64x128 32) (r : Fin 64) (l : Fin 128) :
    k1_pay15 v73 (k1_pay13 lanes) (k1_pay14 (tileWord i)) (ix2 r l) = v73 (ix2 r ⟨64 * ((i 1).val % 2) + 32 + l.val / 4, by omega⟩) := by
  pointwise [k1_pay15, k1_pay13, k1_pay14, lanes]
  congr 2
  apply Fin.ext
  dsimp only
  have hb := coord_lt i
  unfold tileWord
  generalize (i 1).val = b at hb ⊢
  revert l b
  decide +kernel

theorem lanes_at (r : Fin 64) (l : Fin 128) : lanes (ix2 r l) = BitVec.ofNat 32 l.val := by
  pointwise [lanes]

theorem shl16 (x : BitVec 32) : IntOp.shli .vector x 16#32 = x <<< 16 := rfl

/-- Which of four words a lane takes, and which half of it. -/
theorem pick (c : BitVec 8) (W : ℕ → BitVec 32) (l : ℕ) :
    Scalar.select (if 128 ≤ c.toNat then 1#1 else 0#1)
      (IntOp.andi (Scalar.select (if l % 4 < 2 then 1#1 else 0#1) (Scalar.select (if l % 2 = 0 then 1#1 else 0#1) (W 0) (W 1))
        (Scalar.select (if l % 2 = 0 then 1#1 else 0#1) (W 2) (W 3))) 4294901760#32)
      (IntOp.shli .vector (Scalar.select (if l % 4 < 2 then 1#1 else 0#1) (Scalar.select (if l % 2 = 0 then 1#1 else 0#1) (W 0) (W 1))
        (Scalar.select (if l % 2 = 0 then 1#1 else 0#1) (W 2) (W 3))) 16#32)
      = valueWord c (W (l % 4)) := by
  have e : Scalar.select (if l % 4 < 2 then 1#1 else 0#1) (Scalar.select (if l % 2 = 0 then 1#1 else 0#1) (W 0) (W 1))
      (Scalar.select (if l % 2 = 0 then 1#1 else 0#1) (W 2) (W 3)) = W (l % 4) := by
    have h4 : l % 4 < 4 := Nat.mod_lt _ (by decide)
    have h2 : l % 2 = (l % 4) % 2 := by omega
    rw [h2]
    generalize l % 4 = k at h4 ⊢
    interval_cases k <;> rfl
  rw [e, shl16]
  unfold valueWord
  split <;> rfl

theorem leftPay_at (i : grid1.Coords) (x : Vec Ideal S1x64x128 .i8) (w0 w1 w2 w3 : Vec Ideal S1x1x1x128 .i32) (c : BitVec 8) (W : ℕ → BitVec 32) (r : Fin 64) (l : Fin 128)
    (hc : x (ix3 0 r ⟨64 * ((i 1).val % 2) + l.val / 4, by omega⟩) = c)
    (h0 : w0 (ix4 0 0 0 ⟨c.toNat % 128, by omega⟩) = W 0) (h1 : w1 (ix4 0 0 0 ⟨c.toNat % 128, by omega⟩) = W 1)
    (h2 : w2 (ix4 0 0 0 ⟨c.toNat % 128, by omega⟩) = W 2) (h3 : w3 (ix4 0 0 0 ⟨c.toNat % 128, by omega⟩) = W 3) :
    leftPay i x w0 w1 w2 w3 (ix3 0 r l) = Ideal.ofBits .f32 (valueWord c (W (l.val % 4))) := by
  unfold leftPay
  pointwise [k1_pay12, k1_pay11, k1_pay7, k1_pay8, k1_pay9, k1_pay10, lanes_at, pay6_at, pay2_at, hc, code_lane', code_high', bit1, bit2, h0, h1, h2, h3]
  rw [pick]

theorem rightPay_at (i : grid1.Coords) (x : Vec Ideal S1x64x128 .i8) (w0 w1 w2 w3 : Vec Ideal S1x1x1x128 .i32) (c : BitVec 8) (W : ℕ → BitVec 32) (r : Fin 64) (l : Fin 128)
    (hc : x (ix3 0 r ⟨64 * ((i 1).val % 2) + 32 + l.val / 4, by omega⟩) = c)
    (h0 : w0 (ix4 0 0 0 ⟨c.toNat % 128, by omega⟩) = W 0) (h1 : w1 (ix4 0 0 0 ⟨c.toNat % 128, by omega⟩) = W 1)
    (h2 : w2 (ix4 0 0 0 ⟨c.toNat % 128, by omega⟩) = W 2) (h3 : w3 (ix4 0 0 0 ⟨c.toNat % 128, by omega⟩) = W 3) :
    rightPay i x w0 w1 w2 w3 (ix3 0 r l) = Ideal.ofBits .f32 (valueWord c (W (l.val % 4))) := by
  unfold rightPay
  pointwise [k1_pay22, k1_pay21, k1_pay20, k1_pay16, k1_pay17, k1_pay18, k1_pay19, lanes_at, pay15_at, pay2_at, hc, code_lane', code_high', bit1, bit2, h0, h1, h2, h3]
  rw [pick]

theorem wordV_at (x4 : Vec Ideal S1x2x4x128 .i32) {h w : ℕ} (hh : h < 2) (hw : w < 4) (k : Fin 128) :
    wordV x4 hh hw (ix4 0 0 0 k) = x4 (ix4 0 ⟨h, hh⟩ ⟨w, hw⟩ k) := by
  unfold wordV VecWindow.window
  congr 1
  funext a
  match a with
  | 0 => exact Fin.ext (by show 0 + 1 * 0 = 0; omega)
  | 1 => exact Fin.ext (by show h + 1 * 0 = h; omega)
  | 2 => exact Fin.ext (by show w + 1 * 0 = w; omega)
  | 3 => exact Fin.ext (by show 0 + 1 * k.val = k.val; omega)

theorem codeV_at (x3 : Vec Ideal S1x768x128 .i8) {n : ℕ} (hn : n < 12) (r : Fin 64) (k : Fin 128) :
    codeV x3 hn (ix3 0 r k) = x3 (ix3 0 ⟨64 * n + r.val, by omega⟩ k) := by
  unfold codeV VecWindow.window
  congr 1
  funext a
  match a with
  | 0 => exact Fin.ext (by show 0 + 1 * 0 = 0; omega)
  | 1 => exact Fin.ext (by show 64 * n + 1 * r.val = 64 * n + r.val; omega)
  | 2 => exact Fin.ext (by show 0 + 1 * k.val = k.val; omega)

/-- The tile's value at row `r`, column `j`: the code of its group of four columns picks a packed word of its half's codebook. -/
theorem qV_at (i : grid1.Coords) (x3 : Vec Ideal S1x768x128 .i8) (x4 : Vec Ideal S1x2x4x128 .i32) (r : Fin 768) (j : Fin 256) (c : BitVec 8)
    (hc : x3 (ix3 0 r ⟨64 * ((i 1).val % 2) + j.val / 4, by omega⟩) = c) :
    qV i x3 x4 (ix3 0 r j) = Ideal.ofBits .f32 (valueWord c (x4 (ix4 0 ⟨j.val / 128, by omega⟩ ⟨j.val % 4, by omega⟩ ⟨c.toNat % 128, by omega⟩))) := by
  have er : (⟨64 * (r.val / 64) + r.val % 64, by omega⟩ : Fin 768) = r := Fin.ext (by show 64 * (r.val / 64) + r.val % 64 = r.val; omega)
  by_cases hj : j.val < 128
  · refine (qV_left i x3 x4 (r.val / 64) (by omega) (ix3 0 r j) (ix3 0 ⟨r.val % 64, by omega⟩ ⟨j.val, hj⟩)
      (by show r.val = 64 * (r.val / 64) + r.val % 64; omega) rfl).trans ?_
    refine (leftPay_at i _ _ _ _ _ c (fun w => x4 (ix4 0 0 ⟨w % 4, by omega⟩ ⟨c.toNat % 128, by omega⟩)) ⟨r.val % 64, by omega⟩ ⟨j.val, hj⟩ ?_
      (wordV_at ..) (wordV_at ..) (wordV_at ..) (wordV_at ..)).trans ?_
    · refine (codeV_at ..).trans (Eq.trans ?_ hc)
      rw [er]
    · congr 3
      refine congrArg₂ (fun a b => ix4 0 a b _) (Fin.ext ?_) (Fin.ext ?_)
      · show 0 = j.val / 128; omega
      · show j.val % 4 % 4 = j.val % 4; omega
  · refine (qV_right i x3 x4 (r.val / 64) (by omega) (ix3 0 r j) (ix3 0 ⟨r.val % 64, by omega⟩ ⟨j.val - 128, by omega⟩)
      (by show r.val = 64 * (r.val / 64) + r.val % 64; omega) (by show j.val = 128 + (j.val - 128); omega)).trans ?_
    refine (rightPay_at i _ _ _ _ _ c (fun w => x4 (ix4 0 1 ⟨w % 4, by omega⟩ ⟨c.toNat % 128, by omega⟩)) ⟨r.val % 64, by omega⟩ ⟨j.val - 128, by omega⟩ ?_
      (wordV_at ..) (wordV_at ..) (wordV_at ..) (wordV_at ..)).trans ?_
    · refine (codeV_at ..).trans (Eq.trans ?_ hc)
      rw [er]
      refine congrArg (fun a => x3 (ix3 0 r a)) (Fin.ext ?_)
      show 64 * ((i 1).val % 2) + 32 + (j.val - 128) / 4 = 64 * ((i 1).val % 2) + j.val / 4
      omega
    · congr 3
      refine congrArg₂ (fun a b => ix4 0 a b _) (Fin.ext ?_) (Fin.ext ?_)
      · show 1 = j.val / 128; omega
      · show (j.val - 128) % 4 % 4 = j.val % 4; omega

/-- Of a packed word the code takes the half it names. -/
theorem valueWord_packed (c : BitVec 8) (lo hi : BitVec 16) :
    valueWord c (BitVec.setWidth 32 lo ||| BitVec.setWidth 32 hi <<< 16) = BitVec.setWidth 32 (if 128 ≤ c.toNat then hi else lo) <<< 16 := by
  unfold valueWord
  split
  · apply BitVec.eq_of_getLsbD_eq
    intro k hk
    simp only [BitVec.getLsbD_and, BitVec.getLsbD_or, BitVec.getLsbD_shiftLeft, BitVec.getLsbD_setWidth]
    have hlo : 16 ≤ k → lo.getLsbD k = false := fun h => BitVec.getLsbD_of_ge _ _ h
    have hm : ∀ k < 32, BitVec.getLsbD 4294901760#32 k = decide (16 ≤ k) := by decide +kernel
    rw [hm k hk]
    by_cases h : 16 ≤ k
    · simp [h, hlo h, hk, Nat.not_lt.mpr h]
    · simp [h, hk, Nat.lt_of_not_le h]
  · apply BitVec.eq_of_getLsbD_eq
    intro k hk
    simp only [BitVec.getLsbD_or, BitVec.getLsbD_shiftLeft, BitVec.getLsbD_setWidth]
    have hk' : k - 16 < 16 := by omega
    by_cases h : k < 16
    · simp [h]
    · simp [h, hk, hk']

end Cert.KernelIdeal.Solve

end
-- ==== Proof.Alg.lean ====
module

public import Mathlib.Data.Matrix.Basic
public import Mathlib.LinearAlgebra.Matrix.NonsingularInverse
public import Mathlib.Data.EReal.Basic
public import Mathlib.Algebra.BigOperators.Intervals

@[expose] public section

set_option maxRecDepth 16384

noncomputable section

/-! The mathematics, over the reals: the row solution, column by column; the inverse of an upper triangular matrix, row by
    row from below; and that multiplying by the inverse of a diagonal block solves that block's columns. -/

namespace Cert.Alg

open Finset

/-- The solution of `e · triu(u) = r`, one column after the other. -/
def sol (r : ℕ → ℝ) (u : ℕ → ℕ → ℝ) (c : ℕ) : ℝ := (r c - ∑ k : Fin c, sol r u k.val * u k.val c) / u c c
termination_by c
decreasing_by exact k.isLt

theorem sol_eq (r : ℕ → ℝ) (u : ℕ → ℕ → ℝ) (c : ℕ) : sol r u c = (r c - ∑ k ∈ range c, sol r u k * u k c) / u c c := by
  rw [sol, Finset.sum_range fun k => sol r u k * u k c]

/-- The columns of a tile are the solution's, when they satisfy the tile's equations. -/
theorem tile_unique (r : ℕ → ℝ) (u : ℕ → ℕ → ℝ) (s n : ℕ) (hd : ∀ i < n, u (s + i) (s + i) ≠ 0) (e : ℕ → ℝ)
    (h : ∀ c < n, ∑ k ∈ range (c + 1), e k * u (s + k) (s + c) = r (s + c) - ∑ k ∈ range s, sol r u k * u k (s + c)) :
    ∀ c, c < n → e c = sol r u (s + c) := by
  intro c
  induction c using Nat.strong_induction_on with
  | _ c ih =>
    intro hc
    have e1 := h c hc
    rw [sum_range_succ] at e1
    rw [sol_eq, eq_div_iff (hd c hc), sum_range_add, ← sub_sub, ← e1]
    rw [sum_congr rfl fun k hk => by rw [ih k (mem_range.1 hk) (lt_trans (mem_range.1 hk) hc)]]
    ring

/-- Rows `n` and up of the inverse are done, the rows below `n` hold what is left of the identity. -/
def Inv (u : ℕ → ℕ → ℝ) (n : ℕ) (x : ℕ → ℕ → ℝ) : Prop :=
  ∀ i < 128, ∀ j < 128, (i < n → x i j + ∑ l ∈ Ico n 128, u i l * x l j = if i = j then 1 else 0)
    ∧ (n ≤ i → ∑ l ∈ Ico i 128, u i l * x l j = if i = j then 1 else 0)

theorem Inv.init (u : ℕ → ℕ → ℝ) (x : ℕ → ℕ → ℝ) (hx : ∀ i < 128, ∀ j < 128, x i j = if i = j then 1 else 0) : Inv u 128 x :=
  fun i hi j hj => ⟨fun _ => by rw [Ico_self, sum_empty, add_zero, hx i hi j hj], fun h => absurd hi (by omega)⟩

/-- One step: row `n` is divided by the diagonal entry and taken off the rows above it. -/
theorem Inv.step (u : ℕ → ℕ → ℝ) (n : ℕ) (hn : n < 128) (hd : u n n ≠ 0) (x y : ℕ → ℕ → ℝ) (hx : Inv u (n + 1) x)
    (h1 : ∀ j < 128, y n j = x n j / u n n) (h2 : ∀ i < n, ∀ j < 128, y i j = x i j - u i n * (x n j / u n n))
    (h3 : ∀ i, n < i → i < 128 → ∀ j < 128, y i j = x i j) : Inv u n y := by
  intro i hi j hj
  have tail : ∀ a, n + 1 ≤ a → ∀ i', ∑ l ∈ Ico a 128, u i' l * y l j = ∑ l ∈ Ico a 128, u i' l * x l j := fun a ha i' =>
    sum_congr rfl fun l hl => by rw [h3 l (by have := (mem_Ico.1 hl).1; omega) (mem_Ico.1 hl).2 j hj]
  refine ⟨fun hin => ?_, fun hni => ?_⟩
  · rw [sum_eq_sum_Ico_succ_bot hn, tail (n + 1) le_rfl, h1 j hj, h2 i hin j hj, ← (hx i hi j hj).1 (by omega)]
    ring
  · rcases Nat.eq_or_lt_of_le hni with rfl | hlt
    · rw [sum_eq_sum_Ico_succ_bot hn, tail (n + 1) le_rfl, h1 j hj, ← (hx n hi j hj).1 (by omega)]
      field_simp
    · rw [tail i hlt, (hx i hi j hj).2 hlt]

/-- The upper triangle of a matrix. -/
def triu (u : ℕ → ℕ → ℝ) : Matrix (Fin 128) (Fin 128) ℝ := fun i j => if i.val ≤ j.val then u i.val j.val else 0

/-- The first 128 rows and columns, as a matrix. -/
def mat (x : ℕ → ℕ → ℝ) : Matrix (Fin 128) (Fin 128) ℝ := fun i j => x i.val j.val

theorem Inv.mul (u x : ℕ → ℕ → ℝ) (h : Inv u 0 x) : triu u * mat x = 1 := by
  ext i j
  have e := (h i.val i.isLt j.val j.isLt).2 (Nat.zero_le _)
  rw [Matrix.mul_apply, Matrix.one_apply]
  simp only [Fin.ext_iff, ← e]
  refine (Fin.sum_univ_eq_sum_range (fun l => (if i.val ≤ l then u i.val l else 0) * x l j.val) 128).trans ?_
  rw [range_eq_Ico, ← sum_Ico_consecutive _ (Nat.zero_le i.val) i.isLt.le, sum_eq_zero, zero_add]
  · exact sum_congr rfl fun l hl => by rw [if_pos (mem_Ico.1 hl).1]
  · intro l hl
    rw [if_neg (by have := (mem_Ico.1 hl).2; omega), zero_mul]

/-- From the left as well. -/
theorem Inv.mul' (u x : ℕ → ℕ → ℝ) (h : Inv u 0 x) : mat x * triu u = 1 :=
  mul_eq_one_comm.1 (h.mul)

theorem Inv.left (u x : ℕ → ℕ → ℝ) (h : Inv u 0 x) (i j : ℕ) (hi : i < 128) (hj : j < 128) :
    ∑ l ∈ range 128, x i l * (if l ≤ j then u l j else 0) = if i = j then 1 else 0 := by
  have e := congrFun (congrFun h.mul' ⟨i, hi⟩) ⟨j, hj⟩
  rw [Matrix.mul_apply, Matrix.one_apply] at e
  simp only [Fin.ext_iff] at e
  rw [← e]
  exact (Fin.sum_univ_eq_sum_range (fun l => x i l * (if l ≤ j then u l j else 0)) 128).symm

/-- The inverse of a block of 256, from the inverses `x`, `z` of its halves' upper triangles. -/
def blk (u x z : ℕ → ℕ → ℝ) (i j : ℕ) : ℝ :=
  if i < 128 then if j < 128 then x i j else -∑ p ∈ range 128, (∑ q ∈ range 128, x i q * u q (128 + p)) * z p (j - 128)
  else if j < 128 then 0 else z (i - 128) (j - 128)

theorem blk_left (u x z : ℕ → ℕ → ℝ) (hx : Inv u 0 x) (hz : Inv (fun i j => u (128 + i) (128 + j)) 0 z) (i j : ℕ) (hi : i < 256) (hj : j < 256) :
    ∑ l ∈ range 256, blk u x z i l * (if l ≤ j then u l j else 0) = if i = j then 1 else 0 := by
  rw [show (256 : ℕ) = 128 + 128 from rfl, sum_range_add]
  have zl := fun a b ha hb => hz.left _ _ a b ha hb
  have xl := fun a b ha hb => hx.left _ _ a b ha hb
  by_cases h1 : i < 128
  · by_cases h2 : j < 128
    · rw [sum_eq_zero (s := range 128) (f := fun k => blk u x z i (128 + k) * _), add_zero, ← xl i j h1 h2]
      · exact sum_congr rfl fun l hl => by rw [blk, if_pos h1, if_pos (mem_range.1 hl)]
      · intro k _
        rw [if_neg (by omega), mul_zero]
    · obtain ⟨j, rfl⟩ := Nat.exists_eq_add_of_le (not_lt.1 h2)
      have hj' : j < 128 := by omega
      rw [if_neg (show ¬ i = 128 + j by omega)]
      have e1 : ∑ l ∈ range 128, blk u x z i l * (if l ≤ 128 + j then u l (128 + j) else 0) = ∑ q ∈ range 128, x i q * u q (128 + j) :=
        sum_congr rfl fun l hl => by rw [blk, if_pos h1, if_pos (mem_range.1 hl), if_pos (by have := mem_range.1 hl; omega)]
      have e2 : ∑ l ∈ range 128, blk u x z i (128 + l) * (if 128 + l ≤ 128 + j then u (128 + l) (128 + j) else 0)
          = -∑ p ∈ range 128, (∑ q ∈ range 128, x i q * u q (128 + p)) * (if p = j then 1 else 0) := by
        have e3 : ∑ p ∈ range 128, (∑ q ∈ range 128, x i q * u q (128 + p)) * (if p = j then (1 : ℝ) else 0)
            = ∑ p ∈ range 128, (∑ q ∈ range 128, x i q * u q (128 + p)) * ∑ l ∈ range 128, z p l * (if l ≤ j then u (128 + l) (128 + j) else 0) :=
          sum_congr rfl fun p hp => by rw [zl p j (mem_range.1 hp) hj']
        rw [e3]
        simp only [mul_sum (s := range 128) (f := fun l => z _ l * _)]
        rw [sum_comm, ← sum_neg_distrib]
        refine sum_congr rfl fun l hl => ?_
        have eb : blk u x z i (128 + l) = -∑ p ∈ range 128, (∑ q ∈ range 128, x i q * u q (128 + p)) * z p l := by
          unfold blk
          rw [if_pos h1, if_neg (by omega), Nat.add_sub_cancel_left]
        rw [eb, neg_mul, sum_mul, neg_inj]
        refine sum_congr rfl fun p hp => ?_
        rw [if_congr (show (128 + l ≤ 128 + j) ↔ (l ≤ j) by omega) rfl rfl, mul_assoc]
      rw [e1, e2]
      simp only [mul_ite, mul_one, mul_zero]
      rw [sum_ite_eq' , if_pos (mem_range.2 hj'), add_neg_cancel]
  · obtain ⟨i, rfl⟩ := Nat.exists_eq_add_of_le (not_lt.1 h1)
    have hi' : i < 128 := by omega
    rw [sum_eq_zero (s := range 128) (f := fun l => blk u x z (128 + i) l * _), zero_add]
    · by_cases h2 : j < 128
      · rw [if_neg (show ¬ 128 + i = j by omega)]
        exact sum_eq_zero fun l _ => by rw [if_neg (by omega), mul_zero]
      · obtain ⟨j, rfl⟩ := Nat.exists_eq_add_of_le (not_lt.1 h2)
        rw [if_congr (show (128 + i = 128 + j) ↔ (i = j) by omega) rfl rfl, ← zl i j hi' (by omega)]
        refine sum_congr rfl fun l hl => ?_
        rw [blk, if_neg h1, if_neg (by omega), Nat.add_sub_cancel_left, Nat.add_sub_cancel_left,
          if_congr (show (128 + l ≤ 128 + j) ↔ (l ≤ j) by omega) rfl rfl]
    · intro l hl
      rw [blk, if_neg h1, if_pos (mem_range.1 hl), zero_mul]

/-- Multiplying by the inverse of a diagonal block solves the block's equations. -/
theorem solve_blk (u v : ℕ → ℕ → ℝ) (hv : ∀ i < 256, ∀ j < 256, ∑ l ∈ range 256, v i l * (if l ≤ j then u l j else 0) = if i = j then 1 else 0)
    (a : ℕ → ℝ) (c : ℕ) (hc : c < 256) : ∑ k ∈ range (c + 1), (∑ i ∈ range 256, a i * v i k) * u k c = a c := by
  have e : ∑ k ∈ range (c + 1), (∑ i ∈ range 256, a i * v i k) * u k c = ∑ k ∈ range 256, (∑ i ∈ range 256, a i * v i k) * (if k ≤ c then u k c else 0) := by
    rw [show (256 : ℕ) = (c + 1) + (256 - (c + 1)) by omega, sum_range_add (n := c + 1), sum_eq_zero (s := range (256 - (c + 1))), add_zero]
    · exact sum_congr rfl fun k hk => by rw [if_pos (by have := mem_range.1 hk; omega)]
    · intro k _
      rw [if_neg (by omega), mul_zero]
  rw [e]
  simp only [sum_mul]
  rw [sum_comm]
  rw [sum_congr rfl fun i hi => by
    rw [sum_congr rfl fun k _ => mul_assoc (a i) (v i k) _, ← mul_sum, hv i (mem_range.1 hi) c hc]]
  simp only [mul_ite, mul_one, mul_zero]
  rw [sum_ite_eq', if_pos (mem_range.2 hc)]

end Cert.Alg

end
-- ==== Proof.Reals.lean ====
module

public import Idealize.ShloMosaic.PureOps.Ideal
public import Idealize.ShloMosaic.Lib.VecWindow
public import Mathlib.Data.EReal.Operations

@[expose] public section

set_option maxRecDepth 16384

noncomputable section

/-! Extended reals that are real numbers, and reading a window put into an array. -/

namespace Cert.Reals

open Idealize.ShloMosaic Finset

theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [sum_insert ha, sum_insert ha, EReal.coe_add, ih]

/-- A sum of products of reals over `Fin n` is the real sum over the first `n` numbers. -/
theorem sum_mul_coe (n : ℕ) (a b : ℕ → ℝ) : (∑ k : Fin n, ((a k.val : ℝ) : EReal) * ((b k.val : ℝ) : EReal)) = ((∑ k ∈ range n, a k * b k : ℝ) : EReal) := by
  rw [sum_range (fun k => a k * b k), coe_sum]
  exact sum_congr rfl fun k _ => (EReal.coe_mul _ _).symm

theorem div_coe {y : ℝ} (h : y ≠ 0) (x : ℝ) : Ideal.div (x : EReal) (y : EReal) = ((x / y : ℝ) : EReal) := by
  rw [Ideal.div_coe h, ← EReal.coe_mul, mul_one_div]

theorem sub_self_coe (x : ℝ) : (x : EReal) - (x : EReal) = 0 := by rw [← EReal.coe_sub, sub_self, EReal.coe_zero]

/-- A value between the infinities is a real. -/
theorem exists_real {x : EReal} (h1 : x ≠ ⊤) (h2 : x ≠ ⊥) : ∃ r : ℝ, x = (r : EReal) := ⟨x.toReal, (EReal.coe_toReal h1 h2).symm⟩

variable {s : Shape} {α : Type}

theorem put_in (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have hh : ∀ a, off a ≤ (y a).val ∧ (y a).val < off a + size a := fun a => by have := h a; have := (z a).isLt; omega
  unfold VecWindow.put
  rw [dif_pos hh]
  exact congrArg w (funext fun a => Fin.ext (by rw [Rect.unitLocal_val]; have := h a; omega))

theorem put_out (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  rw [dif_neg]
  intro hh
  have := hh a
  omega

end Cert.Reals

end
-- ==== Proof.Spec.lean ====
module

public import proofs.«01_k».proof.Proof.Alg
public import proofs.«01_k».proof.Proof.Reals
public import Idealize.ShloMosaic.Lib.Pointwise

@[expose] public section

set_option maxRecDepth 16384

noncomputable section

/-! What the two results are, entry by entry, as functions of the arguments. -/

namespace Cert.Spec

open Idealize.ShloMosaic Cert.Alg Cert.Reals

/-- The value at row `r`, column `j` of matrix `p`: the code of the column's group of four picks a row of the group's codebook, whose 16-bit word is the upper half of a binary32 word. -/
def value (codes : (⟨3, ![5, 1536, 1280]⟩ : Shape).Idx → BitVec 8) (book : (⟨4, ![5, 40, 256, 4]⟩ : Shape).Idx → BitVec 16)
    (p : Fin 5) (r : Fin 1536) (j : Fin 5120) : EReal :=
  Ideal.ofBits .f32 (BitVec.setWidth 32 (book (ix4 p (⟨j.val / 128, by omega⟩ : Fin 40)
    (⟨(codes (ix3 p r (⟨j.val / 4, by omega⟩ : Fin 1280))).toNat, (codes _).isLt⟩ : Fin 256) (⟨j.val % 4, by omega⟩ : Fin 4))) <<< 16)

/-- The arguments as real numbers: `res` the differences of weights and values, `u` the matrix on and above its diagonal, which has no zero on the diagonal. -/
structure Real (w : (⟨3, ![5, 1536, 5120]⟩ : Shape).Idx → EReal) (codes : (⟨3, ![5, 1536, 1280]⟩ : Shape).Idx → BitVec 8) (book : (⟨4, ![5, 40, 256, 4]⟩ : Shape).Idx → BitVec 16)
    (um : (⟨2, ![5120, 5120]⟩ : Shape).Idx → EReal) (res : ℕ → ℕ → ℕ → ℝ) (u : ℕ → ℕ → ℝ) : Prop where
  diff : ∀ (p : Fin 5) (r : Fin 1536) (j : Fin 5120), w (ix3 p r j) - value codes book p r j = ((res p.val r.val j.val : ℝ) : EReal)
  upper : ∀ i j : Fin 5120, i.val ≤ j.val → um (ix2 i j) = ((u i.val j.val : ℝ) : EReal)
  diag : ∀ k < 5120, u k k ≠ 0

end Cert.Spec

end
-- ==== Proof.InvStep.lean ====
module

public import proofs.«01_k».proof.Proof.InvRun
public import proofs.«01_k».proof.Proof.Reals
public import proofs.«01_k».proof.Proof.Alg
public import Idealize.ShloMosaic.Lib.Pointwise

@[expose] public section

set_option maxRecDepth 16384

noncomputable section

/-! The steps of the first call's body over the extended reals: half `h` of the scratch holds real numbers, and a step does to
    them what the back substitution does. -/

namespace Cert.KernelIdeal.Inv

open Idealize.ShloMosaic Idealize.ShloMosaic.TcCoe Cert.Reals Cert.Alg
open Cert.KernelIdeal.Gen

theorem pivotPay_at {k : ℕ} (hk : k < 128) (u : Vec Ideal S128x128 .f32) (x : Vec Ideal S1x1x128 .f32) (j : Fin 128) :
    pivotPay hk u x (ix3 0 0 j) = Ideal.div (x (ix3 0 0 j)) (u (ix2 ⟨k, hk⟩ ⟨k, hk⟩)) := by
  pointwise [pivotPay, pivot]

theorem divV_row {h k : ℕ} (hh : h < 2) (hk : k < 128) (u : Vec Ideal S128x128 .f32) (xs : Vec Ideal S2x128x128 .f32) (j : Fin 128) :
    divV hh hk u xs (ix3 ⟨h, hh⟩ ⟨k, hk⟩ j) = Ideal.div (xs (ix3 ⟨h, hh⟩ ⟨k, hk⟩ j)) (u (ix2 ⟨k, hk⟩ ⟨k, hk⟩)) := by
  unfold divV
  rw [put_in xs ![h, k, 0] S1x1x128.size _ _ (ix3 (n0 := 1) (n1 := 1) (n2 := 128) 0 0 j)]
  · refine (pivotPay_at hk u _ j).trans ?_
    congr 1
    unfold VecWindow.window
    congr 1
    funext a
    match a with
    | 0 => exact Fin.ext (by show h + 1 * 0 = h; omega)
    | 1 => exact Fin.ext (by show k + 1 * 0 = k; omega)
    | 2 => exact Fin.ext (by show 0 + 1 * j.val = j.val; omega)
  · intro a
    match a with
    | 0 => rfl
    | 1 => rfl
    | 2 => exact (Nat.zero_add _).symm

theorem divV_off {h k : ℕ} (hh : h < 2) (hk : k < 128) (u : Vec Ideal S128x128 .f32) (xs : Vec Ideal S2x128x128 .f32) (g : Fin 2) (i j : Fin 128)
    (hne : g.val ≠ h ∨ i.val ≠ k) : divV hh hk u xs (ix3 g i j) = xs (ix3 g i j) := by
  unfold divV
  rcases hne with hne | hne
  · exact put_out xs _ _ _ _ 0 (by show g.val < h ∨ h + 1 ≤ g.val; omega)
  · exact put_out xs _ _ _ _ 1 (by show i.val < k ∨ k + 1 ≤ i.val; omega)

theorem slt_nat (a b : ℕ) (ha : a < 128) (hb : b < 128) : (BitVec.ofNat 32 a).slt (BitVec.ofNat 32 b) = decide (a < b) := by
  rw [BitVec.slt]
  congr 1
  rw [BitVec.toInt_eq_toNat_of_lt (by rw [BitVec.toNat_ofNat]; omega), BitVec.toInt_eq_toNat_of_lt (by rw [BitVec.toNat_ofNat]; omega), BitVec.toNat_ofNat, BitVec.toNat_ofNat]
  exact propext ⟨fun h => by omega, fun h => by omega⟩

theorem reshape_row {n : ℕ} (h : (R3 n).numel = (R2 n).numel) (i : Fin n) (j : Fin 128) :
    Shape.reshapeEquiv h (ix3 (0 : Fin 1) i j) = ix2 i j :=
  Shape.reshapeEquiv_eq_of_rowMajor h (by
    rw [Shape.rowMajor_val_three, Shape.rowMajor_val_two]
    show i.val * 128 + j.val = ((0 * n + i.val) * 128 + j.val)
    omega)

theorem reshape_row' {n : ℕ} (h : (R2 n).numel = (R3 n).numel) (i : Fin n) (j : Fin 128) :
    Shape.reshapeEquiv h (ix2 i j) = ix3 (0 : Fin 1) i j :=
  Shape.reshapeEquiv_eq_of_rowMajor h (by
    rw [Shape.rowMajor_val_three, Shape.rowMajor_val_two]
    show ((0 * n + i.val) * 128 + j.val) = i.val * 128 + j.val
    omega)

theorem bc_col_at {n : ℕ} {α : Type} (v : (C2 n).Idx → α) (h : (C2 n).Broadcasts (R2 n)) (i : Fin n) (j : Fin 128) :
    broadcastTo (R2 n) v h (ix2 i j) = v (ix2 i (0 : Fin 1)) := by
  have hn := i.isLt
  have key : ∀ x : (C2 n).Idx, (x 0).val = i.val → v x = v (ix2 i (0 : Fin 1)) := fun x hx => by
    congr 1
    funext a
    match a with
    | 0 => exact Fin.ext hx
    | 1 => exact Subsingleton.elim (α := Fin 1) _ _
  unfold broadcastTo
  refine key _ ?_
  split
  · rename_i e
    replace e : n = 1 := e
    show 0 = i.val
    omega
  · rfl

theorem updPay_at {k : ℕ} (hk : k < 128) (u : Vec Ideal S128x128 .f32) (x : Vec Ideal S1x1x128 .f32) (r : Vec Ideal (R3 (rows k)) .f32)
    (i : Fin (rows k)) (hi : i.val < 128) (j : Fin 128) :
    updPay hk u x r (ix3 0 i j) = (r (ix3 0 i j) : EReal) - (if i.val < k then (u (ix2 ⟨i.val, hi⟩ ⟨k, hk⟩) : EReal) * Ideal.div (x (ix3 0 0 j)) (u (ix2 ⟨k, hk⟩ ⟨k, hk⟩)) else 0) := by
  pointwise [updPay, pivot, reshape_row, reshape_row', bc_col_at]
  congr 1
  unfold Scalar.select IntOp.cmpi
  dsimp only
  rw [slt_nat _ _ hi hk]
  by_cases e : i.val < k
  · rw [if_pos e]
    simp [e]
  · rw [if_neg e]
    simp [e]

theorem updV_at {h k : ℕ} (hh : h < 2) (hk : k < 128) (u : Vec Ideal S128x128 .f32) (x : Vec Ideal S1x1x128 .f32) (xs : Vec Ideal S2x128x128 .f32)
    (i j : Fin 128) (hi : i.val < k) : updV hh hk u x xs (ix3 ⟨h, hh⟩ i j) = (xs (ix3 ⟨h, hh⟩ i j) : EReal) - (u (ix2 i ⟨k, hk⟩) : EReal) * Ideal.div (x (ix3 0 0 j)) (u (ix2 ⟨k, hk⟩ ⟨k, hk⟩)) := by
  have hr : i.val < rows k := by unfold rows; omega
  unfold updV
  rw [put_in xs ![h, 0, 0] (R3 (rows k)).size _ _ (ix3 (n0 := 1) (n1 := rows k) (n2 := 128) 0 ⟨i.val, hr⟩ j)]
  · refine (updPay_at hk u x _ ⟨i.val, hr⟩ i.isLt j).trans ?_
    rw [if_pos hi]
    congr 1
    unfold VecWindow.window
    congr 1
    funext a
    match a with
    | 0 => exact Fin.ext (by show h + 1 * 0 = h; omega)
    | 1 => exact Fin.ext (by show 0 + 1 * i.val = i.val; omega)
    | 2 => exact Fin.ext (by show 0 + 1 * j.val = j.val; omega)
  · intro a
    match a with
    | 0 => rfl
    | 1 => exact (Nat.zero_add _).symm
    | 2 => exact (Nat.zero_add _).symm

theorem updV_below {h k : ℕ} (hh : h < 2) (hk : k < 128) (u : Vec Ideal S128x128 .f32) (x : Vec Ideal S1x1x128 .f32) (xs : Vec Ideal S2x128x128 .f32)
    (g : Fin 2) (i j : Fin 128) (hi : k ≤ i.val) : updV hh hk u x xs (ix3 g i j) = xs (ix3 g i j) := by
  unfold updV
  by_cases hg : g.val = h
  · by_cases hr : i.val < rows k
    · rw [put_in xs ![h, 0, 0] (R3 (rows k)).size _ _ (ix3 (n0 := 1) (n1 := rows k) (n2 := 128) 0 ⟨i.val, hr⟩ j)]
      · refine (updPay_at hk u x _ ⟨i.val, hr⟩ i.isLt j).trans ?_
        rw [if_neg (by show ¬ i.val < k; omega), sub_zero]
        unfold VecWindow.window
        congr 1
        funext a
        match a with
        | 0 => exact Fin.ext (by show h + 1 * 0 = g.val; omega)
        | 1 => exact Fin.ext (by show 0 + 1 * i.val = i.val; omega)
        | 2 => exact Fin.ext (by show 0 + 1 * j.val = j.val; omega)
      · intro a
        match a with
        | 0 => exact hg
        | 1 => exact (Nat.zero_add _).symm
        | 2 => exact (Nat.zero_add _).symm
    · exact put_out xs _ _ _ _ 1 (by show i.val < 0 ∨ 0 + rows k ≤ i.val; omega)
  · exact put_out xs _ _ _ _ 0 (by show g.val < h ∨ h + 1 ≤ g.val; omega)

theorem updV_off {h k : ℕ} (hh : h < 2) (hk : k < 128) (u : Vec Ideal S128x128 .f32) (x : Vec Ideal S1x1x128 .f32) (xs : Vec Ideal S2x128x128 .f32)
    (g : Fin 2) (i j : Fin 128) (hg : g.val ≠ h) : updV hh hk u x xs (ix3 g i j) = xs (ix3 g i j) := by
  unfold updV
  exact put_out xs _ _ _ _ 0 (by show g.val < h ∨ h + 1 ≤ g.val; omega)

/-- The real numbers half `h` of the scratch holds. -/
def Half (h : ℕ) (hh : h < 2) (xs : Vec Ideal S2x128x128 .f32) (x : ℕ → ℕ → ℝ) : Prop :=
  ∀ i j : Fin 128, xs (ix3 ⟨h, hh⟩ i j) = ((x i.val j.val : ℝ) : EReal)

/-- The upper triangle of a block holds the real numbers of `u`. -/
def Upper (x : Vec Ideal S128x128 .f32) (u : ℕ → ℕ → ℝ) : Prop := ∀ i j : Fin 128, i.val ≤ j.val → x (ix2 i j) = ((u i.val j.val : ℝ) : EReal)

/-- The matrix after the pivot row `k` is divided. -/
def nxtD (u : ℕ → ℕ → ℝ) (k : ℕ) (x : ℕ → ℕ → ℝ) (i j : ℕ) : ℝ := if i = k then x k j / u k k else x i j

/-- The matrix after step `k`. -/
def nxt (u : ℕ → ℕ → ℝ) (k : ℕ) (x : ℕ → ℕ → ℝ) (i j : ℕ) : ℝ := if i < k then x i j - u i k * (x k j / u k k) else nxtD u k x i j

theorem half_div {h k : ℕ} (hh : h < 2) (hk : k < 128) {U : Vec Ideal S128x128 .f32} {u : ℕ → ℕ → ℝ} (hU : Upper U u) (hd : u k k ≠ 0)
    {xs : Vec Ideal S2x128x128 .f32} {x : ℕ → ℕ → ℝ} (hx : Half h hh xs x) : Half h hh (divV hh hk U xs) (nxtD u k x) := fun i j => by
  unfold nxtD
  by_cases e : i.val = k
  · obtain rfl : i = ⟨k, hk⟩ := Fin.ext e
    rw [if_pos rfl, divV_row, hx, hU _ _ (le_refl _), div_coe hd]
  · rw [if_neg e, divV_off hh hk U xs _ i j (.inr e), hx]

theorem half_div_other {g h k : ℕ} (hg : g < 2) (hh : h < 2) (hne : g ≠ h) (hk : k < 128) {U : Vec Ideal S128x128 .f32}
    {xs : Vec Ideal S2x128x128 .f32} {x : ℕ → ℕ → ℝ} (hx : Half g hg xs x) : Half g hg (divV hh hk U xs) x := fun i j =>
  (divV_off hh hk U xs ⟨g, hg⟩ i j (.inl hne)).trans (hx i j)

theorem rowV_at {h k : ℕ} (hh : h < 2) (hk : k < 128) (xs : Vec Ideal S2x128x128 .f32) (j : Fin 128) :
    rowV hh hk xs (ix3 0 0 j) = xs (ix3 ⟨h, hh⟩ ⟨k, hk⟩ j) := by
  unfold rowV VecWindow.window
  congr 1
  funext a
  match a with
  | 0 => exact Fin.ext (by show h + 1 * 0 = h; omega)
  | 1 => exact Fin.ext (by show k + 1 * 0 = k; omega)
  | 2 => exact Fin.ext (by show 0 + 1 * j.val = j.val; omega)

theorem half_step {h k : ℕ} (hh : h < 2) (hk : k < 128) {U : Vec Ideal S128x128 .f32} {u : ℕ → ℕ → ℝ} (hU : Upper U u) (hd : u k k ≠ 0)
    {xs : Vec Ideal S2x128x128 .f32} {x : ℕ → ℕ → ℝ} (hx : Half h hh xs x) : Half h hh (stepV hh hk U xs) (nxt u k x) := fun i j => by
  unfold stepV nxt
  by_cases e : i.val < k
  · rw [if_pos e, updV_at hh hk U _ _ i j e, rowV_at, half_div hh hk hU hd hx i j, hx, hU _ _ (le_refl _), hU _ _ (show i.val ≤ k from e.le), div_coe hd,
      ← EReal.coe_mul, ← EReal.coe_sub, nxtD, if_neg e.ne]
  · rw [if_neg e, updV_below hh hk U _ _ _ i j (by omega), half_div hh hk hU hd hx i j]

theorem half_step_other {g h k : ℕ} (hg : g < 2) (hh : h < 2) (hne : g ≠ h) (hk : k < 128) {U : Vec Ideal S128x128 .f32}
    {xs : Vec Ideal S2x128x128 .f32} {x : ℕ → ℕ → ℝ} (hx : Half g hg xs x) : Half g hg (stepV hh hk U xs) x := fun i j =>
  (updV_off hh hk U _ _ ⟨g, hg⟩ i j hne).trans (half_div_other hg hh hne hk hx i j)

theorem inv_nxt {u : ℕ → ℕ → ℝ} {k : ℕ} (hk : k < 128) (hd : u k k ≠ 0) {x : ℕ → ℕ → ℝ} (hx : Inv u (k + 1) x) : Inv u k (nxt u k x) := by
  refine Inv.step u k hk hd x (nxt u k x) hx ?_ ?_ ?_
  all_goals intros
  all_goals unfold nxt nxtD
  · rw [if_neg (by omega), if_pos rfl]
  · rw [if_pos (by assumption)]
  · rw [if_neg (by omega), if_neg (by omega)]

theorem inv_nxt_zero {u : ℕ → ℕ → ℝ} (hd : u 0 0 ≠ 0) {x : ℕ → ℕ → ℝ} (hx : Inv u 1 x) : Inv u 0 (nxtD u 0 x) := by
  refine Inv.step u 0 (by omega) hd x (nxtD u 0 x) hx ?_ ?_ ?_
  all_goals intros
  all_goals unfold nxtD
  · rw [if_pos rfl]
  · omega
  · rw [if_neg (by omega)]

/-- After the steps both halves hold the inverses. -/
theorem steps_inv {U0 U1 : Vec Ideal S128x128 .f32} {u0 u1 : ℕ → ℕ → ℝ} (hU0 : Upper U0 u0) (hU1 : Upper U1 u1)
    (h0 : ∀ k < 128, u0 k k ≠ 0) (h1 : ∀ k < 128, u1 k k ≠ 0) : ∀ (k : ℕ) (hk : k < 128) (xs : Vec Ideal S2x128x128 .f32) (x0 x1 : ℕ → ℕ → ℝ),
    Half 0 (by decide) xs x0 → Half 1 (by decide) xs x1 → Inv u0 (k + 1) x0 → Inv u1 (k + 1) x1 →
    ∃ y0 y1, Half 0 (by decide) (stepsV U0 U1 k hk xs) y0 ∧ Half 1 (by decide) (stepsV U0 U1 k hk xs) y1 ∧ Inv u0 0 y0 ∧ Inv u1 0 y1
  | 0, hk, xs, x0, x1, hx0, hx1, i0, i1 => by
    unfold stepsV
    exact ⟨nxtD u0 0 x0, nxtD u1 0 x1, half_div_other _ _ (by decide) hk (half_div _ hk hU0 (h0 0 hk) hx0),
      half_div _ hk hU1 (h1 0 hk) (half_div_other _ _ (by decide) hk hx1), inv_nxt_zero (h0 0 hk) i0, inv_nxt_zero (h1 0 hk) i1⟩
  | k + 1, hk, xs, x0, x1, hx0, hx1, i0, i1 => by
    unfold stepsV
    exact steps_inv hU0 hU1 h0 h1 k (by omega) _ (nxt u0 (k + 1) x0) (nxt u1 (k + 1) x1)
      (half_step_other _ _ (by decide) hk (half_step _ hk hU0 (h0 _ hk) hx0))
      (half_step _ hk hU1 (h1 _ hk) (half_step_other _ _ (by decide) hk hx1)) (inv_nxt hk (h0 _ hk) i0) (inv_nxt hk (h1 _ hk) i1)

/-- The unit matrix. -/
def unit (i j : ℕ) : ℝ := if i = j then 1 else 0

theorem pay3_at (i j : Fin 128) : k0_pay3 (F := Ideal) (ix2 i j) = ((unit i.val j.val : ℝ) : EReal) := by
  pointwise [k0_pay3]
  have hi := i.isLt
  have hj := j.isLt
  show (((BitVec.setWidth 32 (IntOp.cmpi CmpIPredicate.eq (BitVec.ofNat 32 i.val) (BitVec.ofNat 32 j.val))).toInt : ℝ) : EReal) = _
  unfold unit IntOp.cmpi
  dsimp only
  by_cases e : i.val = j.val
  · rw [if_pos e, e]
    simp
  · have e' : BitVec.ofNat 32 i.val ≠ BitVec.ofNat 32 j.val := fun h => e (by
      have := congrArg BitVec.toNat h
      rw [BitVec.toNat_ofNat, BitVec.toNat_ofNat] at this
      omega)
    rw [if_neg e]
    rw [show (BitVec.ofNat 32 i.val == BitVec.ofNat 32 j.val) = false from beq_eq_false_iff_ne.2 e']
    simp

theorem init_half (xs : Vec Ideal S2x128x128 .f32) (h : ℕ) (hh : h < 2) : Half h hh (initV xs) unit := fun i j => by
  unfold initV
  obtain rfl | rfl : h = 0 ∨ h = 1 := by omega
  · rw [put_out _ _ _ _ _ 0 (.inl (by show 0 < 1; omega)), put_in xs ![0, 0, 0] S1x128x128.size _ _ (ix3 (n0 := 1) (n1 := 128) (n2 := 128) 0 i j)]
    · refine Eq.trans ?_ (pay3_at i j)
      pointwise [k0_pay4]
    · intro a
      match a with
      | 0 => rfl
      | 1 => exact (Nat.zero_add _).symm
      | 2 => exact (Nat.zero_add _).symm
  · refine (put_in (VecWindow.put xs ![0, 0, 0] S1x128x128.size (k0_pay4 (F := Ideal))) ![1, 0, 0] S1x128x128.size (k0_pay5 (F := Ideal)) _ (ix3 (n0 := 1) (n1 := 128) (n2 := 128) 0 i j) ?_).trans ?_
    rotate_left
    · refine Eq.trans ?_ (pay3_at i j)
      pointwise [k0_pay5]
    · intro a
      match a with
      | 0 => rfl
      | 1 => exact (Nat.zero_add _).symm
      | 2 => exact (Nat.zero_add _).symm

/-- The scratch when all steps are done, from whatever it held. -/
theorem scratch_inv {U0 U1 : Vec Ideal S128x128 .f32} {u0 u1 : ℕ → ℕ → ℝ} (hU0 : Upper U0 u0) (hU1 : Upper U1 u1)
    (h0 : ∀ k < 128, u0 k k ≠ 0) (h1 : ∀ k < 128, u1 k k ≠ 0) (xs : Vec Ideal S2x128x128 .f32) :
    ∃ y0 y1, Half 0 (by decide) (stepsV U0 U1 127 (by decide) (initV xs)) y0 ∧ Half 1 (by decide) (stepsV U0 U1 127 (by decide) (initV xs)) y1 ∧ Inv u0 0 y0 ∧ Inv u1 0 y1 :=
  steps_inv hU0 hU1 h0 h1 127 _ _ unit unit (init_half xs 0 _) (init_half xs 1 _) (Inv.init u0 unit fun _ _ _ _ => rfl) (Inv.init u1 unit fun _ _ _ _ => rfl)

end Cert.KernelIdeal.Inv

end
-- ==== Proof.InvOut.lean ====
module

public import proofs.«01_k».proof.Proof.InvStep
public import Idealize.ShloMosaic.Lib.Pipeline.ValueKit.Tiles

@[expose] public section

set_option maxRecDepth 16384

noncomputable section

/-! What the first call's body stores, over the extended reals: the inverse of the block in the first piece, and zeros in the
    other two. -/

namespace Cert.KernelIdeal.Inv

open Idealize.ShloMosaic Idealize.ShloMosaic.TcCoe Cert.Reals Cert.Alg Finset
open Cert.KernelIdeal.Gen

section
variable {a c : Vec Ideal S1x128x128 .f32} {b : Vec Ideal S128x128 .f32} {u y z : ℕ → ℕ → ℝ}
  (ha : ∀ i j : Fin 128, a (ix3 0 i j) = ((y i.val j.val : ℝ) : EReal)) (hc : ∀ i j : Fin 128, c (ix3 0 i j) = ((z i.val j.val : ℝ) : EReal))
  (hb : ∀ i j : Fin 128, b (ix2 i j) = ((u i.val (128 + j.val) : ℝ) : EReal))

include ha in
theorem pay950_at (i j : Fin 128) : k0_pay950 a (ix2 i j) = ((y i.val j.val : ℝ) : EReal) := by
  pointwise [k0_pay950, ha]

include hc in
theorem pay951_at (i j : Fin 128) : k0_pay951 c (ix2 i j) = ((z i.val j.val : ℝ) : EReal) := by
  pointwise [k0_pay951, hc]

/-- The product of the first half's inverse with the block between. -/
def prod (u y : ℕ → ℕ → ℝ) (i j : ℕ) : ℝ := ∑ q ∈ range 128, y i q * u q (128 + j)

include ha hb in
theorem pay952_at (i j : Fin 128) : k0_pay952 a b (ix2 i j) = ((prod u y i.val j.val : ℝ) : EReal) := by
  pointwise [k0_pay952, k0_pay950, ha, hb]
  simp only [sub_self_coe, sub_zero, zero_mul, mul_zero, sum_const_zero, add_zero, zero_add]
  exact sum_mul_coe 128 (y i.val) fun k => u k (128 + j.val)

include ha hb in
theorem pay953_at (i j : Fin 128) : k0_pay953 a b (ix2 i j) = ((prod u y i.val j.val : ℝ) : EReal) := by
  pointwise [k0_pay953, pay952_at ha hb]

include ha hb in
theorem pay955_at (i j : Fin 128) : k0_pay955 a b (ix2 i j) = (0 : EReal) := by
  pointwise [k0_pay955, k0_pay954, k0_pay953, pay952_at ha hb]
  exact sub_self_coe _

include ha hb in
theorem pay956_at (i j : Fin 128) : k0_pay956 a b (ix2 i j) = (0 : EReal) := by
  pointwise [k0_pay956, k0_pay955, k0_pay954, k0_pay953, pay952_at ha hb]
  simp only [sub_self_coe, sub_zero]

include hc in
theorem pay957_at (i j : Fin 128) : k0_pay957 c (ix2 i j) = ((z i.val j.val : ℝ) : EReal) := by
  pointwise [k0_pay957, pay951_at hc]

include hc in
theorem pay959_at (i j : Fin 128) : k0_pay959 c (ix2 i j) = (0 : EReal) := by
  pointwise [k0_pay959, k0_pay958, k0_pay957, pay951_at hc]
  exact sub_self_coe _

include hc in
theorem pay960_at (i j : Fin 128) : k0_pay960 c (ix2 i j) = (0 : EReal) := by
  pointwise [k0_pay960, k0_pay959, k0_pay958, k0_pay957, pay951_at hc]
  simp only [sub_self_coe, sub_zero]

include ha hb hc in
theorem pay961_at (i : Fin 128) (j : Fin 256) :
    k0_pay961 (k0_pay950 a) (k0_pay953 a b) (k0_pay955 a b) (k0_pay956 a b) (k0_pay957 c) (k0_pay959 c) (k0_pay960 c) (ix2 i j) = ((blk u y z i.val j.val : ℝ) : EReal) := by
  pointwise [k0_pay961, pay950_at ha, pay953_at ha hb, pay955_at ha hb, pay956_at ha hb, pay957_at hc, pay959_at hc, pay960_at hc]
  simp only [sub_zero, zero_mul, mul_zero, sum_const_zero, add_zero, zero_add]
  have hi := i.isLt
  unfold blk
  rw [if_pos hi]
  split
  · rfl
  · rw [EReal.coe_neg, ← zero_sub]
    exact congrArg (fun t : EReal => 0 - t) (sum_mul_coe 128 (prod u y i.val) fun k => z k (j.val - 128))

include hc in
theorem pay966_at (i : Fin 128) (j : Fin 256) : k0_pay966 (k0_pay951 c) (ix2 i j) = ((blk u y z (128 + i.val) j.val : ℝ) : EReal) := by
  pointwise [k0_pay966, pay951_at hc]
  unfold blk
  rw [if_neg (by omega)]
  split
  · rfl
  · rw [Nat.add_sub_cancel_left]

include ha hb hc in
theorem out0 (i : Fin 128) (j : Fin 256) :
    k0_pay971 (k0_pay950 a) (k0_pay953 a b) (k0_pay955 a b) (k0_pay956 a b) (k0_pay957 c) (k0_pay959 c) (k0_pay960 c) (ix4 0 0 i j) = ((blk u y z i.val j.val : ℝ) : EReal) := by
  pointwise [k0_pay971, k0_pay962, pay961_at ha hc hb]

include ha hb hc in
theorem out1 (i : Fin 128) (j : Fin 256) :
    k0_pay973 (k0_pay964 (k0_pay950 a) (k0_pay953 a b) (k0_pay955 a b) (k0_pay956 a b) (k0_pay957 c) (k0_pay959 c) (k0_pay960 c)) (ix4 0 0 i j) = (0 : EReal) := by
  pointwise [k0_pay973, k0_pay964, k0_pay963, k0_pay962, pay961_at ha hc hb]
  exact sub_self_coe _

include ha hb hc in
theorem out2 (i : Fin 128) (j : Fin 256) :
    k0_pay1 (k0_pay965 (k0_pay950 a) (k0_pay953 a b) (k0_pay955 a b) (k0_pay956 a b) (k0_pay957 c) (k0_pay959 c) (k0_pay960 c)) (ix4 0 0 i j) = (0 : EReal) := by
  pointwise [k0_pay1, k0_pay965, k0_pay964, k0_pay963, k0_pay962, pay961_at ha hc hb]
  simp only [sub_self_coe, sub_zero]

include hc in
theorem low0 (u y : ℕ → ℕ → ℝ) (i : Fin 128) (j : Fin 256) : k0_pay972 (k0_pay951 c) (ix4 0 0 i j) = ((blk u y z (128 + i.val) j.val : ℝ) : EReal) := by
  pointwise [k0_pay972, k0_pay967, pay966_at (u := u) (y := y) hc]

include hc in
theorem low1 (i : Fin 128) (j : Fin 256) : k0_pay974 (k0_pay969 (k0_pay951 c)) (ix4 0 0 i j) = (0 : EReal) := by
  pointwise [k0_pay974, k0_pay969, k0_pay968, k0_pay967, pay966_at (u := fun _ _ => 0) (y := fun _ _ => 0) hc]
  exact sub_self_coe _

include hc in
theorem low2 (i : Fin 128) (j : Fin 256) : k0_pay2 (k0_pay970 (k0_pay951 c)) (ix4 0 0 i j) = (0 : EReal) := by
  pointwise [k0_pay2, k0_pay970, k0_pay969, k0_pay968, k0_pay967, pay966_at (u := fun _ _ => 0) (y := fun _ _ => 0) hc]
  simp only [sub_self_coe, sub_zero]

/-- An index of a stored block of 128 rows. -/
theorem piece_idx (P R : ℕ) (inb : ∀ a, (![0, P, R, 0] : Fin 4 → ℕ) a + S1x1x128x256.size a ≤ S1x3x256x256.size a) (p : Fin 3) (i j : Fin 256)
    (x : S1x1x128x256.Idx) (hx : (Rect.unit (s := S1x3x256x256) ![0, P, R, 0] S1x1x128x256.size inb).emb x = (ix4 0 p i j : S1x3x256x256.Idx)) :
    p.val = P ∧ ∃ k : Fin 128, i.val = R + k.val ∧ x = ix4 0 0 k j := by
  have e : ∀ a : Fin 4, (![0, P, R, 0] : Fin 4 → ℕ) a + 1 * (x a).val = ((ix4 0 p i j : S1x3x256x256.Idx) a).val := fun a => congrArg (fun y => (y a).val) hx
  have e1 : P + 1 * (x 1).val = p.val := e 1
  have e2 : R + 1 * (x 2).val = i.val := e 2
  have e3 : 0 + 1 * (x 3).val = j.val := e 3
  have l1 : (x 1).val < 1 := (x 1).isLt
  have l2 : (x 2).val < 128 := (x 2).isLt
  refine ⟨by omega, ⟨(x 2).val, l2⟩, by show i.val = R + (x 2).val; omega, ?_⟩
  funext a
  match a with
  | 0 => exact Subsingleton.elim (α := Fin 1) _ _
  | 1 => exact Subsingleton.elim (α := Fin 1) _ _
  | 2 => rfl
  | 3 => exact Fin.ext (by show (x 3).val = j.val; omega)

/-- A stored block of 128 rows, where it holds an index. -/
theorem piece_case (P R : ℕ) (inb : ∀ a, (![0, P, R, 0] : Fin 4 → ℕ) a + S1x1x128x256.size a ≤ S1x3x256x256.size a) (p : Fin 3) (i j : Fin 256)
    (pay : S1x1x128x256.Idx → EReal) (v : EReal) (h : p.val = P → ∀ k : Fin 128, i.val = R + k.val → pay (ix4 0 0 k j) = v) (x : S1x1x128x256.Idx)
    (hx : (Rect.unit (s := S1x3x256x256) ![0, P, R, 0] S1x1x128x256.size inb).emb x = (ix4 0 p i j : S1x3x256x256.Idx)) : pay x = v := by
  obtain ⟨hp, k, hk, rfl⟩ := piece_idx P R inb p i j x hx
  exact h hp k hk

include ha hb hc in
/-- The six stored blocks, read at an index. -/
theorem canon_at (p : Fin 3) (i j : Fin 256) :
    View.canon (outL a c b) (ix4 0 p i j) = if p.val = 0 then ((blk u y z i.val j.val : ℝ) : EReal) else (0 : EReal) := by
  refine View.canon_eq_of_allAt _ _ _ (outL_cover a c b _) ?_
  unfold outL
  refine List.forall_mem_cons.2 ⟨piece_case 2 128 inb_S1x3x256x256_S1x1x128x256_0_2_128_0 p i j _ _ fun hp k hk => ?_, ?_⟩
  · rw [if_neg (by omega)]; exact low2 hc k j
  refine List.forall_mem_cons.2 ⟨piece_case 2 0 inb_S1x3x256x256_S1x1x128x256_0_2_0_0 p i j _ _ fun hp k hk => ?_, ?_⟩
  · rw [if_neg (by omega)]; exact out2 ha hc hb k j
  refine List.forall_mem_cons.2 ⟨piece_case 1 128 inb_S1x3x256x256_S1x1x128x256_0_1_128_0 p i j _ _ fun hp k hk => ?_, ?_⟩
  · rw [if_neg (by omega)]; exact low1 hc k j
  refine List.forall_mem_cons.2 ⟨piece_case 1 0 inb_S1x3x256x256_S1x1x128x256_0_1_0_0 p i j _ _ fun hp k hk => ?_, ?_⟩
  · rw [if_neg (by omega)]; exact out1 ha hc hb k j
  refine List.forall_mem_cons.2 ⟨piece_case 0 128 inb_S1x3x256x256_S1x1x128x256_0_0_128_0 p i j _ _ fun hp k hk => ?_, ?_⟩
  · rw [if_pos hp, hk]; exact low0 hc u y k j
  refine List.forall_mem_cons.2 ⟨piece_case 0 0 inb_S1x3x256x256_S1x1x128x256_0_0_0_0 p i j _ _ fun hp k hk => ?_, ?_⟩
  · rw [if_pos hp, hk, Nat.zero_add]; exact out0 ha hc hb k j
  exact fun q hq => absurd hq List.not_mem_nil
end

/-- The block of 256 rows and columns has the real numbers of `u` on and above its diagonal. -/
def UpperB (x : Vec Ideal S256x256 .f32) (u : ℕ → ℕ → ℝ) : Prop := ∀ i j : Fin 256, i.val ≤ j.val → x (ix2 i j) = ((u i.val j.val : ℝ) : EReal)

/-- What the body leaves of a block: a left inverse of its upper triangle in the first piece, zeros in the other two. -/
theorem out_inv {x : Vec Ideal S256x256 .f32} {u : ℕ → ℕ → ℝ} (hx : UpperB x u) (hd : ∀ k < 256, u k k ≠ 0) :
    ∃ v : ℕ → ℕ → ℝ, (∀ i < 256, ∀ j < 256, ∑ l ∈ range 256, v i l * (if l ≤ j then u l j else 0) = if i = j then 1 else 0)
      ∧ ∀ (p : Fin 3) (i j : Fin 256), invOut x (ix4 0 p i j) = if p.val = 0 then ((v i.val j.val : ℝ) : EReal) else (0 : EReal) := by
  have w0 : Upper (VecWindow.window x ![0, 0] S128x128.size inb_S256x256_S128x128_0_0) u := fun i j hij => by
    refine Eq.trans ?_ (hx ⟨i.val, by omega⟩ ⟨j.val, by omega⟩ hij)
    unfold VecWindow.window
    congr 1
    funext a
    match a with
    | 0 => exact Fin.ext (by show 0 + 1 * i.val = i.val; omega)
    | 1 => exact Fin.ext (by show 0 + 1 * j.val = j.val; omega)
  have w1 : Upper (VecWindow.window x ![128, 128] S128x128.size inb_S256x256_S128x128_128_128) (fun i j => u (128 + i) (128 + j)) := fun i j hij => by
    refine Eq.trans ?_ (hx ⟨128 + i.val, by omega⟩ ⟨128 + j.val, by omega⟩ (by show 128 + i.val ≤ 128 + j.val; omega))
    unfold VecWindow.window
    congr 1
    funext a
    match a with
    | 0 => exact Fin.ext (by show 128 + 1 * i.val = 128 + i.val; omega)
    | 1 => exact Fin.ext (by show 128 + 1 * j.val = 128 + j.val; omega)
  obtain ⟨y, z, hy, hz, iy, iz⟩ := scratch_inv w0 w1 (fun k hk => hd k (by omega)) (fun k hk => hd (128 + k) (by omega)) (fun _ => Scalar.ofBits (F := Ideal) .f32 0#32)
  refine ⟨blk u y z, fun i hi j hj => blk_left u y z iy iz i j hi hj, fun p i j => ?_⟩
  unfold invOut invV finV
  refine canon_at (fun i j => ?_) (fun i j => ?_) (fun i j => ?_) p i j
  · refine Eq.trans ?_ (hy i j)
    unfold VecWindow.window
    congr 1
    funext a
    match a with
    | 0 => exact Fin.ext (by show 0 + 1 * 0 = 0; omega)
    | 1 => exact Fin.ext (by show 0 + 1 * i.val = i.val; omega)
    | 2 => exact Fin.ext (by show 0 + 1 * j.val = j.val; omega)
  · refine Eq.trans ?_ (hz i j)
    unfold VecWindow.window
    congr 1
    funext a
    match a with
    | 0 => exact Fin.ext (by show 1 + 1 * 0 = 1; omega)
    | 1 => exact Fin.ext (by show 0 + 1 * i.val = i.val; omega)
    | 2 => exact Fin.ext (by show 0 + 1 * j.val = j.val; omega)
  · refine Eq.trans ?_ (hx ⟨i.val, by omega⟩ ⟨128 + j.val, by omega⟩ (by show i.val ≤ 128 + j.val; omega))
    unfold VecWindow.window
    congr 1
    funext a
    match a with
    | 0 => exact Fin.ext (by show 0 + 1 * i.val = i.val; omega)
    | 1 => exact Fin.ext (by show 128 + 1 * j.val = 128 + j.val; omega)

end Cert.KernelIdeal.Inv

end
-- ==== Proof.SolveReal.lean ====
module

public import proofs.«01_k».proof.Proof.SolveVal
public import proofs.«01_k».proof.Proof.Reals
public import proofs.«01_k».proof.Proof.Alg
public import Idealize.ShloMosaic.Lib.Pointwise

@[expose] public section

set_option maxRecDepth 16384

noncomputable section

/-! One point of the second call over the extended reals: if the scratch holds the solution of the tiles passed, the point
    computes the solution of its own tile. -/

namespace Cert.KernelIdeal.Solve

open Idealize.ShloMosaic Idealize.ShloMosaic.TcCoe Cert.Reals Cert.Alg Finset
open Cert.KernelIdeal.Gen

theorem pay24_at {e0 e1 e2 : Vec Ideal S1x768x256 .bf16} {acc : Vec Ideal S768x256 .f32} {u : Vec Ideal S256x256 .f32} {e : ℕ → ℕ → ℝ} {A : ℕ → ℕ → ℝ} {w : ℕ → ℕ → ℝ}
    (h0 : ∀ (r : Fin 768) (k : Fin 256), e0 (ix3 0 r k) = ((e r.val k.val : ℝ) : EReal)) (h1 : ∀ (r : Fin 768) (k : Fin 256), e1 (ix3 0 r k) = (0 : EReal))
    (h2 : ∀ (r : Fin 768) (k : Fin 256), e2 (ix3 0 r k) = (0 : EReal)) (ha : ∀ (r : Fin 768) (k : Fin 256), acc (ix2 r k) = ((A r.val k.val : ℝ) : EReal))
    (hu : ∀ i j : Fin 256, u (ix2 i j) = ((w i.val j.val : ℝ) : EReal)) (r : Fin 768) (c : Fin 256) :
    k1_pay24 e0 e1 e2 acc u (ix2 r c) = ((A r.val c.val - ∑ k ∈ range 256, e r.val k * w k c.val : ℝ) : EReal) := by
  pointwise [k1_pay24, h0, h1, h2, ha, hu]
  simp only [sub_self_coe, sub_zero, zero_mul, mul_zero, sum_const_zero, add_zero, zero_add]
  rw [EReal.coe_sub]
  exact congrArg (fun t : EReal => (A r.val c.val : EReal) - t) (sum_mul_coe 256 (e r.val) fun k => w k c.val)

section
variable {acc : Vec Ideal S768x256 .f32} {x6 : Vec Ideal S1x3x256x256 .bf16} {A v : ℕ → ℕ → ℝ}
  (ha : ∀ (r : Fin 768) (k : Fin 256), acc (ix2 r k) = ((A r.val k.val : ℝ) : EReal))
  (hv : ∀ (p : Fin 3) (i j : Fin 256), x6 (ix4 0 p i j) = if p.val = 0 then ((v i.val j.val : ℝ) : EReal) else (0 : EReal))

include hv in
theorem pieceV_at {p : ℕ} (hp : p < 3) (i j : Fin 256) : pieceV x6 hp (ix4 0 0 i j) = if p = 0 then ((v i.val j.val : ℝ) : EReal) else (0 : EReal) := by
  refine Eq.trans ?_ (hv ⟨p, hp⟩ i j)
  unfold pieceV VecWindow.window
  congr 1
  funext a
  match a with
  | 0 => exact Fin.ext (by show 0 + 1 * 0 = 0; omega)
  | 1 => exact Fin.ext (by show p + 1 * 0 = p; omega)
  | 2 => exact Fin.ext (by show 0 + 1 * i.val = i.val; omega)
  | 3 => exact Fin.ext (by show 0 + 1 * j.val = j.val; omega)

/-- The product of the accumulator with the block's inverse. -/
def tile (A v : ℕ → ℕ → ℝ) (r c : ℕ) : ℝ := ∑ k ∈ range 256, A r k * v k c

include ha hv in
theorem pay31_at (r : Fin 768) (c : Fin 256) :
    k1_pay31 (k1_pay26 acc) (k1_pay28 acc) (k1_pay29 acc) (k1_pay30 (pieceV x6 (p := 0) (by decide))) (pieceV x6 (p := 1) (by decide)) (pieceV x6 (p := 2) (by decide)) (ix2 r c)
      = ((tile A v r.val c.val : ℝ) : EReal) := by
  have p0 := fun i j => (pieceV_at hv (p := 0) (by decide) i j).trans (if_pos rfl)
  have p1 := fun i j => (pieceV_at hv (p := 1) (by decide) i j).trans (if_neg (by decide))
  have p2 := fun i j => (pieceV_at hv (p := 2) (by decide) i j).trans (if_neg (by decide))
  pointwise [k1_pay31, k1_pay26, k1_pay27, k1_pay28, k1_pay29, k1_pay30, ha, p0, p1, p2]
  simp only [sub_self_coe, sub_zero, zero_mul, mul_zero, sum_const_zero, add_zero, zero_add]
  exact sum_mul_coe 256 (A r.val) fun k => v k c.val

include ha hv in
theorem errV_at (r : Fin 768) (c : Fin 256) : errV acc x6 (ix3 0 r c) = ((tile A v r.val c.val : ℝ) : EReal) := by
  pointwise [errV, k1_pay32, pay31_at ha hv]

include ha hv in
theorem err0_at (r : Fin 768) (c : Fin 256) : err0 acc x6 (ix3 0 r c) = ((tile A v r.val c.val : ℝ) : EReal) := by
  pointwise [err0, k1_pay37, k1_pay33, pay31_at ha hv]

include ha hv in
theorem err1_at (r : Fin 768) (c : Fin 256) : err1 acc x6 (ix3 0 r c) = (0 : EReal) := by
  pointwise [err1, k1_pay38, k1_pay35, k1_pay34, k1_pay33, pay31_at ha hv]
  exact sub_self_coe _

include ha hv in
theorem err2_at (r : Fin 768) (c : Fin 256) : err2 acc x6 (ix3 0 r c) = (0 : EReal) := by
  pointwise [err2, k1_pay1, k1_pay36, k1_pay35, k1_pay34, k1_pay33, pay31_at ha hv]
  simp only [sub_self_coe, sub_zero]
end

/-- The scratch holds the solution on the first `n` columns: the numbers in piece 0, zeros in the others. -/
def Done (r u : ℕ → ℕ → ℝ) (n : ℕ) (xs : Vec Ideal S3x768x5120 .bf16) : Prop :=
  ∀ (p : Fin 3) (k : Fin 768) (c : Fin 5120), c.val < n → xs (ix3 p k c) = if p.val = 0 then ((sol (r k.val) u c.val : ℝ) : EReal) else (0 : EReal)

theorem tile_window {r u : ℕ → ℕ → ℝ} {n : ℕ} {xs : Vec Ideal S3x768x5120 .bf16} (h : Done r u n xs) {p j : ℕ} (hp : p < 3) (hj : j < 20) (hn : 256 * j + 256 ≤ n)
    (k : Fin 768) (c : Fin 256) : VecWindow.window xs ![p, 0, 256 * j] S1x768x256.size (inb_tile hp hj) (ix3 0 k c)
      = if p = 0 then ((sol (r k.val) u (256 * j + c.val) : ℝ) : EReal) else (0 : EReal) := by
  refine Eq.trans ?_ (h ⟨p, hp⟩ k ⟨256 * j + c.val, by omega⟩ (by show 256 * j + c.val < n; omega))
  unfold VecWindow.window
  congr 1
  funext a
  match a with
  | 0 => exact Fin.ext (by show p + 1 * 0 = p; omega)
  | 1 => exact Fin.ext (by show 0 + 1 * k.val = k.val; omega)
  | 2 => exact Fin.ext (by show 256 * j + 1 * c.val = 256 * j + c.val; omega)

/-- The accumulator after `n` trips: the differences less the first `256 n` products. -/
theorem accV_at {r u : ℕ → ℕ → ℝ} {b : ℕ} {xs : Vec Ideal S3x768x5120 .bf16} (h : Done r u (256 * b) xs) {x5 : Vec Ideal S5120x256 .f32} {acc : Vec Ideal S768x256 .f32}
    (h5 : ∀ (k : Fin 5120) (c : Fin 256), k.val ≤ 256 * b + c.val → x5 (ix2 k c) = ((u k.val (256 * b + c.val) : ℝ) : EReal))
    (ha : ∀ (k : Fin 768) (c : Fin 256), acc (ix2 k c) = ((r k.val (256 * b + c.val) : ℝ) : EReal)) :
    ∀ (n : ℕ) (hn : n ≤ 20), n ≤ b → ∀ (k : Fin 768) (c : Fin 256),
      accV x5 xs acc n hn (ix2 k c) = ((r k.val (256 * b + c.val) - ∑ l ∈ range (256 * n), sol (r k.val) u l * u l (256 * b + c.val) : ℝ) : EReal)
  | 0, _, _, k, c => by
    unfold accV
    rw [ha, Nat.mul_zero, range_zero, sum_empty, sub_zero]
  | n + 1, hn, hb, k, c => by
    unfold accV updAcc
    have hn' : n < 20 := by omega
    refine (pay24_at (A := fun k c => r k (256 * b + c) - ∑ l ∈ range (256 * n), sol (r k) u l * u l (256 * b + c)) (e := fun k c => sol (r k) u (256 * n + c))
      (w := fun i j => u (256 * n + i) (256 * b + j))
      (fun k c => (tile_window h (p := 0) (by decide) hn' (by omega) k c).trans (if_pos rfl))
      (fun k c => (tile_window h (p := 1) (by decide) hn' (by omega) k c).trans (if_neg (by decide)))
      (fun k c => (tile_window h (p := 2) (by decide) hn' (by omega) k c).trans (if_neg (by decide)))
      (fun k c => accV_at h h5 ha n (by omega) (by omega) k c) (fun i j => ?_) k c).trans ?_
    · refine Eq.trans ?_ (h5 ⟨256 * n + i.val, by omega⟩ j (by show 256 * n + i.val ≤ 256 * b + j.val; omega))
      unfold VecWindow.window
      congr 1
      funext a
      match a with
      | 0 => exact Fin.ext (by show 256 * n + 1 * i.val = 256 * n + i.val; omega)
      | 1 => exact Fin.ext (by show 0 + 1 * j.val = j.val; omega)
    · refine congrArg (fun t : ℝ => (t : EReal)) ?_
      rw [show 256 * (n + 1) = 256 * n + 256 from rfl, Finset.sum_range_add, sub_sub]

/-- The scratch after the stores of tile `b`, on that tile. -/
theorem scrV_at {b : ℕ} {xs : Vec Ideal S3x768x5120 .bf16} {e0 e1 e2 : Vec Ideal S1x768x256 .bf16} {c : Fin 5120} (h1 : ¬ c.val < 256 * b) (h2 : c.val - 256 * b < 256)
    (p : Fin 3) (k : Fin 768) : scrV b xs e0 e1 e2 (ix3 p k c) = if p.val = 0 then e0 (ix3 0 k ⟨c.val - 256 * b, h2⟩)
      else if p.val = 1 then e1 (ix3 0 k ⟨c.val - 256 * b, h2⟩) else e2 (ix3 0 k ⟨c.val - 256 * b, h2⟩) := by
  have hp := p.isLt
  have hin : ∀ q : ℕ, p.val = q → ∀ a : Fin 3, ((ix3 p k c : S3x768x5120.Idx) a).val = (![q, 0, 256 * b] : Fin 3 → ℕ) a
      + ((ix3 (n0 := 1) (n1 := 768) (n2 := 256) 0 k ⟨c.val - 256 * b, h2⟩ : S1x768x256.Idx) a).val := fun q hq a => by
    match a with
    | 0 => exact hq
    | 1 => exact (Nat.zero_add _).symm
    | 2 => show c.val = 256 * b + (c.val - 256 * b); omega
  unfold scrV
  obtain e | e | e : p.val = 0 ∨ p.val = 1 ∨ p.val = 2 := by omega
  · rw [if_pos e, put_out _ _ _ _ _ 0 (.inl (by show p.val < 2; omega)), put_out _ _ _ _ _ 0 (.inl (by show p.val < 1; omega))]
    exact put_in xs ![0, 0, 256 * b] S1x768x256.size e0 _ _ (hin 0 e)
  · rw [if_neg (by omega), if_pos e, put_out _ _ _ _ _ 0 (.inl (by show p.val < 2; omega))]
    exact put_in (VecWindow.put xs ![0, 0, 256 * b] S1x768x256.size e0) ![1, 0, 256 * b] S1x768x256.size e1 _ _ (hin 1 e)
  · rw [if_neg (by omega), if_neg (by omega)]
    exact put_in (VecWindow.put (VecWindow.put xs ![0, 0, 256 * b] S1x768x256.size e0) ![1, 0, 256 * b] S1x768x256.size e1) ![2, 0, 256 * b] S1x768x256.size e2 _ _ (hin 2 e)

section
variable {i : grid1.Coords} {x2 : Vec Ideal S1x768x256 .bf16} {x3 : Vec Ideal S1x768x128 .i8} {x4 : Vec Ideal S1x2x4x128 .i32} {x5 : Vec Ideal S5120x256 .f32}
  {x6 : Vec Ideal S1x3x256x256 .bf16} {xs : Vec Ideal S3x768x5120 .bf16} {r u v : ℕ → ℕ → ℝ} {b : ℕ} (hb : (i 1).val = b)
  (h : Done r u (256 * b) xs)
  (h5 : ∀ (k : Fin 5120) (c : Fin 256), k.val ≤ 256 * b + c.val → x5 (ix2 k c) = ((u k.val (256 * b + c.val) : ℝ) : EReal))
  (hd : ∀ k < 5120, u k k ≠ 0)
  (hr : ∀ (k : Fin 768) (c : Fin 256), (x2 (ix3 0 k c) : EReal) - (qV i x3 x4 (ix3 0 k c) : EReal) = ((r k.val (256 * b + c.val) : ℝ) : EReal))
  (hv : ∀ (p : Fin 3) (i j : Fin 256), x6 (ix4 0 p i j) = if p.val = 0 then ((v i.val j.val : ℝ) : EReal) else (0 : EReal))
  (hi : ∀ i < 256, ∀ j < 256, ∑ l ∈ range 256, v i l * (if l ≤ j then u (256 * b + l) (256 * b + j) else 0) = if i = j then 1 else 0)

include hb h h5 hr in
theorem resV_at (k : Fin 768) (c : Fin 256) :
    resV i x2 x3 x4 x5 xs (ix2 k c) = ((r k.val (256 * b + c.val) - ∑ l ∈ range (256 * b), sol (r k.val) u l * u l (256 * b + c.val) : ℝ) : EReal) := by
  unfold resV
  have e : ∀ (n : ℕ) (hn : n ≤ 20), n = b → accV x5 xs (k1_pay23 x2 (qV i x3 x4)) n hn (ix2 k c)
      = ((r k.val (256 * b + c.val) - ∑ l ∈ range (256 * b), sol (r k.val) u l * u l (256 * b + c.val) : ℝ) : EReal) := fun n hn e => by
    subst e
    refine accV_at h h5 (fun k c => ?_) n hn (le_refl _) k c
    refine Eq.trans ?_ (hr k c)
    pointwise [k1_pay23]
  exact e _ _ hb

/-- The accumulator times the inverse is the solution. -/
theorem tile_sol (hb : b < 20) (hd : ∀ k < 5120, u k k ≠ 0)
    (hi : ∀ i < 256, ∀ j < 256, ∑ l ∈ range 256, v i l * (if l ≤ j then u (256 * b + l) (256 * b + j) else 0) = if i = j then 1 else 0) (k c : ℕ) (hc : c < 256) :
    tile (fun k c => r k (256 * b + c) - ∑ l ∈ range (256 * b), sol (r k) u l * u l (256 * b + c)) v k c = sol (r k) u (256 * b + c) :=
  tile_unique (r k) u (256 * b) 256 (fun c hc => hd _ (by omega)) (fun c => tile (fun k c => r k (256 * b + c) - ∑ l ∈ range (256 * b), sol (r k) u l * u l (256 * b + c)) v k c)
    (fun c hc => solve_blk (fun i j => u (256 * b + i) (256 * b + j)) v hi (fun c => r k (256 * b + c) - ∑ l ∈ range (256 * b), sol (r k) u l * u l (256 * b + c)) c hc) c hc

include hb h h5 hd hr hv hi in
theorem errV_sol (k : Fin 768) (c : Fin 256) : errV (resV i x2 x3 x4 x5 xs) x6 (ix3 0 k c) = ((sol (r k.val) u (256 * b + c.val) : ℝ) : EReal) := by
  have hb' : b < 20 := hb ▸ tile_lt i
  rw [← tile_sol hb' hd hi k.val c.val c.isLt]
  exact errV_at (A := fun k c => r k (256 * b + c) - ∑ l ∈ range (256 * b), sol (r k) u l * u l (256 * b + c)) (fun k c => resV_at hb h h5 hr k c) hv k c

include hb h h5 hd hr hv hi in
/-- The scratch after the point holds the solution on one tile more. -/
theorem scrV_done : Done r u (256 * (b + 1)) (scrV (i 1).val xs (err0 (resV i x2 x3 x4 x5 xs) x6) (err1 (resV i x2 x3 x4 x5 xs) x6) (err2 (resV i x2 x3 x4 x5 xs) x6)) := fun p k c hc => by
  have hb' : b < 20 := hb ▸ tile_lt i
  have ha := fun k c => resV_at (i := i) (x2 := x2) (x3 := x3) (x4 := x4) hb h h5 hr k c
  rw [hb]
  have hp := p.isLt
  by_cases hlt : c.val < 256 * b
  · unfold scrV
    rw [put_out _ _ _ _ _ 2 (.inl hlt), put_out _ _ _ _ _ 2 (.inl hlt), put_out _ _ _ _ _ 2 (.inl hlt)]
    exact h p k c hlt
  · have hcol : 256 * b + (c.val - 256 * b) = c.val := by omega
    refine (scrV_at hlt (by omega) p k).trans ?_
    obtain e | e | e : p.val = 0 ∨ p.val = 1 ∨ p.val = 2 := by omega
    · rw [if_pos e, if_pos e]
      refine (err0_at (A := fun k c => r k (256 * b + c) - ∑ l ∈ range (256 * b), sol (r k) u l * u l (256 * b + c)) ha hv _ _).trans ?_
      rw [tile_sol hb' hd hi k.val (c.val - 256 * b) (by omega), hcol]
    · rw [if_neg (by omega), if_pos e, if_neg (by omega)]
      exact err1_at (A := fun k c => r k (256 * b + c) - ∑ l ∈ range (256 * b), sol (r k) u l * u l (256 * b + c)) ha hv _ _
    · rw [if_neg (by omega), if_neg (by omega), if_neg (by omega)]
      exact err2_at (A := fun k c => r k (256 * b + c) - ∑ l ∈ range (256 * b), sol (r k) u l * u l (256 * b + c)) ha hv _ _
end

end Cert.KernelIdeal.Solve

end
-- ==== Proof.KVals.lean ====
module

public import proofs.«01_k».proof.Proof.KBlocks
public import proofs.«01_k».proof.Proof.Gather
public import proofs.«01_k».proof.Proof.Spec
public import proofs.«01_k».proof.Proof.InvOut
public import proofs.«01_k».proof.Proof.SolveReal
public import Idealize.ShloMosaic.Lib.Pointwise

@[expose] public section

set_option maxRecDepth 16384

noncomputable section

/-! What the two calls leave in their arrays. -/

namespace Cert.KernelIdeal.Run

open Idealize.ShloMosaic Idealize.ShloMosaic.TcCoe Idealize.ShloMosaic.Pipeline
open Cert.KernelIdeal.Gen Cert.Alg Cert.Spec
open Finset (range)

variable (m : (ℓ : Loc nD τ sig) → Buf (Elt Ideal) ℓ)

theorem W2_arg0 (c : Dev nD) : W2 m c (Proc.devRef .tc main_arg0) = m ((c : Thread nD τ).loc main_arg0) := W2_keeps m c main_arg0 (by decide) (by decide)
theorem W2_arg1 (c : Dev nD) : W2 m c (Proc.devRef .tc main_arg1) = m ((c : Thread nD τ).loc main_arg1) := W2_keeps m c main_arg1 (by decide) (by decide)
theorem W2_arg3 (c : Dev nD) : W2 m c (Proc.devRef .tc main_arg3) = m ((c : Thread nD τ).loc main_arg3) := W2_keeps m c main_arg3 (by decide) (by decide)
theorem W1_arg3 (c : Dev nD) : W1 m c (Proc.devRef .tc main_arg3) = m ((c : Thread nD τ).loc main_arg3) := V1_of m c main_arg3 (by decide)
theorem W2_v8 (c : Dev nD) : W2 m c (Proc.devRef .tc main_v8) = (Inv.dat (W1 m c) c).arrAt 1 cfg0.N :=
  Pipeline.afterRegion_arr (Inv.dat (W1 m c) c) (W1 m c) winFacts0.arr_inj 1

/-- The packed codebooks: each word holds the entry of code `k` in its low half and that of code `k + 128` in its high half. -/
theorem W2_v7 (c : Dev nD) (p : Fin 5) (g : Fin 40) (w : Fin 4) (k : Fin 128) :
    W2 m c (Proc.devRef .tc main_v7) (ix4 p g w k)
      = (BitVec.setWidth 32 (m ((c : Thread nD τ).loc main_arg2) (ix4 p g (⟨k.val, by omega⟩ : Fin 256) w))
        ||| BitVec.setWidth 32 (m ((c : Thread nD τ).loc main_arg2) (ix4 p g (⟨128 + k.val, by omega⟩ : Fin 256) w)) <<< 16 : BitVec 32) := by
  have e : W2 m c (Proc.devRef .tc main_v7) = W1 m c (Proc.devRef .tc main_v7) :=
    Pipeline.afterRegion_of_not_arr (Inv.dat (W1 m c) c) (W1 m c) (by decide)
  rw [e]
  unfold W1
  after_results
  rw [id_eq]
  pointwise
  rfl

theorem half_of (B : Fin 256 → BitVec 16) (cd : BitVec 8) :
    (if 128 ≤ cd.toNat then B ⟨128 + cd.toNat % 128, by omega⟩ else B ⟨cd.toNat % 128, by omega⟩) = B ⟨cd.toNat, cd.isLt⟩ := by
  have h := cd.isLt
  split
  · exact congrArg B (Fin.ext (by show 128 + cd.toNat % 128 = cd.toNat; omega))
  · exact congrArg B (Fin.ext (by show cd.toNat % 128 = cd.toNat; omega))

/-- A block of the values. -/
theorem qV_value (c : Dev nD) (t : Fin cfg1.N) (r : Fin 768) (j : Fin 256) :
    Solve.qV (grid1.coords t) (Solve.iblk (W2 m c) 1 t) (Solve.iblk (W2 m c) 2 t) (ix3 0 r j)
      = value (m ((c : Thread nD τ).loc main_arg1)) (m ((c : Thread nD τ).loc main_arg2)) (mat t) (row t r) (col t j) := by
  have hb := Solve.coord_tile t
  have ec : Solve.iblk (W2 m c) 1 t (ix3 0 r ⟨64 * ((grid1.coords t 1).val % 2) + j.val / 4, by omega⟩)
      = m ((c : Thread nD τ).loc main_arg1) (ix3 (mat t) (row t r) (⟨(col t j).val / 4, by omega⟩ : Fin 1280)) := by
    rw [blk1_1, W2_arg1]
    refine congrArg (fun a => m ((c : Thread nD τ).loc main_arg1) (ix3 (mat t) (row t r) a)) (Fin.ext ?_)
    show 128 * (t.val % 20 / 2) + (64 * ((grid1.coords t 1).val % 2) + j.val / 4) = (256 * (t.val % 20) + j.val) / 4
    omega
  rw [Solve.qV_at _ _ _ r j _ ec, blk1_2, W2_v7, Solve.valueWord_packed]
  unfold value
  have eg : (⟨2 * (t.val % 20) + j.val / 128, by omega⟩ : Fin 40) = ⟨(col t j).val / 128, by omega⟩ := Fin.ext (by show 2 * (t.val % 20) + j.val / 128 = (256 * (t.val % 20) + j.val) / 128; omega)
  have ew : (⟨j.val % 4, by omega⟩ : Fin 4) = ⟨(col t j).val % 4, by omega⟩ := Fin.ext (by show j.val % 4 = (256 * (t.val % 20) + j.val) % 4; omega)
  refine congrArg (fun x => Ideal.ofBits .f32 (BitVec.setWidth 32 x <<< 16)) ?_
  rw [← eg, ← ew]
  exact half_of (fun k => m ((c : Thread nD τ).loc main_arg2) (ix4 (mat t) _ k _)) _

/-- The array of values. -/
theorem q_at (c : Dev nD) (p : Fin 5) (r : Fin 1536) (j : Fin 5120) :
    (Solve.dat (W2 m c) c).arrAt 5 cfg1.N (ix3 p r j) = value (m ((c : Thread nD τ).loc main_arg1)) (m ((c : Thread nD τ).loc main_arg2)) p r j :=
  q_forall (W2 m c) c (fun p r j x => x = value (m ((c : Thread nD τ).loc main_arg1)) (m ((c : Thread nD τ).loc main_arg2)) p r j)
    (fun t r j => qV_value m c t r j) p r j

section Errors

variable (c : Dev nD) {res : ℕ → ℕ → ℕ → ℝ} {u : ℕ → ℕ → ℝ}
variable (H : Spec.Real (m ((c : Thread nD τ).loc main_arg0)) (m ((c : Thread nD τ).loc main_arg1)) (m ((c : Thread nD τ).loc main_arg2)) (m ((c : Thread nD τ).loc main_arg3)) res u)

include H in
/-- The array of inverses: piece 0 of tile `b` holds a left inverse of the tile's diagonal block, the other pieces zero. -/
theorem inv_at : ∃ v : Fin 20 → ℕ → ℕ → ℝ,
    (∀ (b : Fin 20), ∀ i < 256, ∀ j < 256, ∑ l ∈ range 256, v b i l * (if l ≤ j then u (256 * b.val + l) (256 * b.val + j) else 0) = if i = j then 1 else 0)
    ∧ ∀ (b : Fin 20) (p : Fin 3) (i j : Fin 256), W2 m c (Proc.devRef .tc main_v8) (ix4 b p i j) = if p.val = 0 then ((v b i.val j.val : ℝ) : EReal) else (0 : EReal) := by
  have key : ∀ t : Fin cfg0.N, _ := fun t => Inv.out_inv (x := Inv.iblk (W1 m c) 0 t) (u := fun i j => u (256 * t.val + i) (256 * t.val + j))
    (fun i j hij => by
      rw [blk0_0, W1_arg3]
      exact H.upper _ _ (by show 256 * t.val + i.val ≤ 256 * t.val + j.val; omega))
    (fun k hk => H.diag _ (by have := lt0 t; omega))
  choose v hv1 hv2 using key
  refine ⟨v, hv1, fun b p i j => ?_⟩
  rw [W2_v8]
  exact inv_forall (W1 m c) c (fun b p i j x => x = if p.val = 0 then ((v b i.val j.val : ℝ) : EReal) else (0 : EReal)) (fun t p k j => hv2 t p k j) b p i j

/-- The differences of the rows of a point's block. -/
def resOf (res : ℕ → ℕ → ℕ → ℝ) (n : ℕ) (k : ℕ) (j : ℕ) : ℝ := res (n / 40) (768 * (n / 20 % 2) + k) j

include H in
theorem errs : ∃ v : Fin 20 → ℕ → ℕ → ℝ, ∀ (t : Fin cfg1.N) (xs : Vec Ideal S3x768x5120 .bf16), Solve.Done (resOf res t.val) u (256 * (t.val % 20)) xs →
    (∀ (k : Fin 768) (j : Fin 256), Solve.errV (Solve.resAt (W2 m c) t xs) (Solve.iblk (W2 m c) 4 t) (ix3 0 k j) = ((sol (resOf res t.val k.val) u (256 * (t.val % 20) + j.val) : ℝ) : EReal))
    ∧ Solve.Done (resOf res t.val) u (256 * (t.val % 20 + 1)) (Solve.scrNext (W2 m c) t xs) := by
  obtain ⟨v, hi, hv⟩ := inv_at m c H
  refine ⟨v, fun t xs h => ?_⟩
  have hb := Solve.coord_tile t
  have h5 : ∀ (k : Fin 5120) (j : Fin 256), k.val ≤ 256 * (t.val % 20) + j.val → Solve.iblk (W2 m c) 3 t (ix2 k j) = ((u k.val (256 * (t.val % 20) + j.val) : ℝ) : EReal) := fun k j hkj => by
    rw [blk1_3, W2_arg3]
    exact H.upper k (col t j) hkj
  have hr : ∀ (k : Fin 768) (j : Fin 256), HSub.hSub (α := EReal) (β := EReal) (γ := EReal) (Solve.iblk (W2 m c) 0 t (ix3 0 k j)) (Solve.qV (grid1.coords t) (Solve.iblk (W2 m c) 1 t) (Solve.iblk (W2 m c) 2 t) (ix3 0 k j))
      = ((resOf res t.val k.val (256 * (t.val % 20) + j.val) : ℝ) : EReal) := fun k j => by
    rw [blk1_0, W2_arg0, qV_value]
    exact H.diff (mat t) (row t k) (col t j)
  have hv' : ∀ (p : Fin 3) (i j : Fin 256), Solve.iblk (W2 m c) 4 t (ix4 0 p i j) = if p.val = 0 then ((v ⟨t.val % 20, by omega⟩ i.val j.val : ℝ) : EReal) else (0 : EReal) := fun p i j => by
    rw [blk1_4]
    exact hv _ p i j
  have hi' := hi ⟨t.val % 20, by omega⟩
  refine ⟨fun k j => Solve.errV_sol hb h h5 H.diag hr hv' hi' k j, ?_⟩
  exact Solve.scrV_done hb h h5 H.diag hr hv' hi'

include H in
theorem scr_done : ∀ (n : ℕ) (hn : n ≤ cfg1.N), Solve.Done (resOf res n) u (256 * (n % 20)) (Solve.scrAt (W2 m c) n hn)
  | 0, _ => fun p k j hj => absurd hj (by omega)
  | n + 1, hn => by
    obtain ⟨v, hv⟩ := errs m c H
    have ih := scr_done n (Nat.le_of_lt hn)
    have h := (hv ⟨n, hn⟩ _ ih).2
    by_cases h0 : (n + 1) % 20 = 0
    · rw [h0]
      exact fun p k j hj => absurd hj (by omega)
    · have e1 : (n + 1) % 20 = n % 20 + 1 := by omega
      have e2 : resOf res (n + 1) = resOf res n := by
        unfold resOf
        rw [show (n + 1) / 40 = n / 40 by omega, show (n + 1) / 20 = n / 20 by omega]
      rw [e1, e2]
      exact h

include H in
/-- The array of errors. -/
theorem err_at (p : Fin 5) (r : Fin 1536) (j : Fin 5120) : (Solve.dat (W2 m c) c).arrAt 6 cfg1.N (ix3 p r j) = ((sol (res p.val r.val) u j.val : ℝ) : EReal) := by
  obtain ⟨v, hv⟩ := errs m c H
  exact err_forall (W2 m c) c (fun p r j x => x = ((sol (res p.val r.val) u j.val : ℝ) : EReal))
    (fun t r j => (hv t _ (scr_done m c H t.val (Nat.le_of_lt t.isLt))).1 r j) p r j

end Errors

end Cert.KernelIdeal.Run

end
-- ==== Proof.RefRun.lean ====
module

public import proofs.«01_k».proof.Proof.Gen.ReferenceIdeal.Run
public import Idealize.ShloMosaic.Lib.Quiescent

@[expose] public section

set_option maxRecDepth 16384

noncomputable section

namespace Cert.ReferenceIdeal.Value

open Idealize.ShloMosaic Idealize.ShloMosaic.TcCoe Idealize.SL Idealize.SL.Sem Idealize.ShloMosaic.StableHlo Cert.ReferenceIdeal.Gen

variable {F : FTy → Type} [FloatOps F]
variable (m : (ℓ : Loc nD τ sig) → Buf (Elt F) ℓ) (ρ : Dev nD → PrngReg)

/-- What the loop and its condition do not write keeps, before every condition, what the part before the loop left. -/
theorem atK_keeps (r : Ref sig .tc) (h1 : r ∉ while0Ops0_W) (h2 : r ∉ condOps_W) (c : Dev nD) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0 _ while0Ops0_writes h1, after_of_writes_sub condOps _ condOps_writes h2,
      atK_keeps r h1 h2 c k]
    rfl

/-- What the part before the loop does not write keeps its launch contents through it. -/
theorem entry_keeps (r : Ref sig .tc) (h0 : r ∉ hostOps0_W) (h1 : r ∉ hostOps0_1_W) (h2 : r ∉ hostOps0_2_W) (c : Dev nD) :
    entryContents preI m c (Proc.devRef .tc r) = m ((c.tc : Thread nD τ).loc r) := by
  simp only [entryContents, afterL_cons, afterL_nil]
  rw [after_of_writes_sub hostOps0_2 _ hostOps0_2_writes h2, after_of_writes_sub hostOps0_1 _ hostOps0_1_writes h1,
    after_of_writes_sub hostOps0 _ hostOps0_writes h0]

theorem final_keeps (r : Ref sig .tc) (h1 : r ∉ while0Ops0_W) (h2 : r ∉ condOps_W) (c : Dev nD) :
    finalContents condOps preI bodyI postI 5120 m c (Proc.devRef .tc r) = entryContents preI m c (Proc.devRef .tc r) :=
  (after_of_writes_sub condOps _ condOps_writes h2).trans (atK_keeps m r h1 h2 c 5120)

/-- The reference's run: the quantised tensor is what the part before the loop computes, the errors are the loop's step
iterated 5120 times, the arguments are unchanged, and every semaphore reads zero. -/
theorem run : θ_run (defs (F := F)) (onTc (τ := τ) (main (F := F))) ⟨m, fun _ => 0, ρ⟩ (fun r => (∀ c : Dev nD,
      r.2.mem ((c.tc : Thread nD τ).loc main_v35) = entryContents preI m c (Proc.devRef .tc main_v35)
      ∧ r.2.mem ((c.tc : Thread nD τ).loc main_v40_4) = (STEP^[5120] (entryContents preI m c)) (Proc.devRef .tc main_v40_4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h c main_v35 rfl).trans (final_keeps m main_v35 (by decide +kernel) (by decide +kernel) c),
     (h c main_v40_4 rfl).trans ((cond_keeps _ main_v40_4 (by decide)).trans (atK_agree m c 5120 main_v40_4 (by decide))),
     (h c main_arg0 rfl).trans ((final_keeps m main_arg0 (by decide +kernel) (by decide +kernel) c).trans (entry_keeps m main_arg0 (by decide +kernel) (by decide +kernel) (by decide +kernel) c)),
     (h c main_arg1 rfl).trans ((final_keeps m main_arg1 (by decide +kernel) (by decide +kernel) c).trans (entry_keeps m main_arg1 (by decide +kernel) (by decide +kernel) (by decide +kernel) c)),
     (h c main_arg2 rfl).trans ((final_keeps m main_arg2 (by decide +kernel) (by decide +kernel) c).trans (entry_keeps m main_arg2 (by decide +kernel) (by decide +kernel) (by decide +kernel) c)),
     (h c main_arg3 rfl).trans ((final_keeps m main_arg3 (by decide +kernel) (by decide +kernel) c).trans (entry_keeps m main_arg3 (by decide +kernel) (by decide +kernel) (by decide +kernel) c))⟩,
    sem_eq_zero_of_no_sems rfl _⟩) (run_fold m ρ)

end Cert.ReferenceIdeal.Value

end
-- ==== Proof.RefGather.lean ====
module

public import proofs.«01_k».proof.Proof.RefRun
public import proofs.«01_k».proof.Proof.Spec
public import Idealize.ShloMosaic.Lib.Pointwise

@[expose] public section

set_option maxRecDepth 16384

noncomputable section

/-! What the reference computes before its loop. -/

namespace Cert.ReferenceIdeal.Value

open Idealize.ShloMosaic Idealize.ShloMosaic.TcCoe Idealize.ShloMosaic.StableHlo
open Cert.ReferenceIdeal.Gen Cert.Spec

/-- The dimension numbers of the reference's gather. -/
abbrev gd := gather_S5x40x256x4_S5x1536x1280x3_S5x1536x1280x4_3_012_n_n_012_3_1114

/-- The reference's gather, read at an index whose three start words are in range. -/
theorem gather_at (x : S5x40x256x4.Idx → EReal) (idx : IVec S5x1536x1280x3 32) (p : Fin 5) (r : Fin 1536) (i : Fin 1280) (w : Fin 4)
    (a : Fin 5) (b : Fin 40) (c : Fin 256) (ha : idx (ix4 p r i (0 : Fin 3)) = BitVec.ofNat 32 a.val) (hb' : idx (ix4 p r i (1 : Fin 3)) = BitVec.ofNat 32 b.val)
    (hc : idx (ix4 p r i (2 : Fin 3)) = BitVec.ofNat 32 c.val) :
    Host.gather gd x idx (ix4 p r i w) = x (ix4 a b c w) := by
  unfold Host.gather
  refine congrArg x (funext fun k => Fin.ext ?_)
  have hst (k : Fin 4) (q : Fin 3) (n : ℕ) (hk : k.val = q.val) (hn : n < 2 ^ 31) (hi : idx (ix4 p r i q) = BitVec.ofNat 32 n)
      (hle : n ≤ S5x40x256x4.size k - gd.sliceSizes k) : gd.start (ix4 p r i w) idx k = n := by
    have hm : k ∈ gd.startIndexMap := by
      have := q.isLt
      have : k = 0 ∨ k = 1 ∨ k = 2 := by omega
      rcases this with h | h | h <;> rw [h] <;> decide
    unfold GatherDims.start
    rw [dif_pos hm]
    have hsi : gd.siIdx (ix4 p r i w) ⟨gd.startIndexMap.idxOf k, List.idxOf_lt_length_iff.2 hm⟩ = ix4 p r i q := by
      funext b
      match k, q, hk with
      | 0, 0, _ => match b with | 0 => rfl | 1 => rfl | 2 => rfl | 3 => rfl
      | 1, 1, _ => match b with | 0 => rfl | 1 => rfl | 2 => rfl | 3 => rfl
      | 2, 2, _ => match b with | 0 => rfl | 1 => rfl | 2 => rfl | 3 => rfl
    rw [hsi, hi]
    have : (BitVec.ofNat 32 n).toInt.toNat = n := by
      rw [BitVec.toInt_eq_toNat_of_lt (by rw [BitVec.toNat_ofNat]; omega), BitVec.toNat_ofNat]
      omega
    rw [this]
    exact Nat.min_eq_left hle
  have hb (k : Fin 4) : gd.batchCoord (ix4 p r i w) k = 0 := GatherDims.batchCoord_eq_zero _ _ _ List.not_mem_nil
  show gd.start (ix4 p r i w) idx k + gd.batchCoord (ix4 p r i w) k + gd.offCoord (ix4 p r i w) k = _
  rw [hb k]
  have hoff (k : Fin 4) (hm : k ∈ gd.collapsedSliceDims) : gd.offCoord (ix4 p r i w) k = 0 :=
    GatherDims.offCoord_eq_zero _ _ _ (fun h => ((GatherDims.mem_sKept _ _).mp h).1 hm)
  match k with
  | 0 => rw [hst 0 0 a.val rfl (by omega) ha (by show a.val ≤ 5 - 1; omega), hoff 0 (by decide)]; rfl
  | 1 => rw [hst 1 1 b.val rfl (by omega) hb' (by show b.val ≤ 40 - 1; omega), hoff 1 (by decide)]; rfl
  | 2 => rw [hst 2 2 c.val rfl (by omega) hc (by show c.val ≤ 256 - 1; omega), hoff 2 (by decide)]; rfl
  | 3 =>
    have h0 : gd.start (ix4 p r i w) idx 3 = 0 := by unfold GatherDims.start; exact dif_neg (by decide)
    rw [h0]
    show 0 + 0 + gd.offCoord (ix4 p r i w) 3 = w.val
    unfold GatherDims.offCoord
    rw [dif_pos (by decide)]
    simp only [Nat.zero_add]
    rfl

end Cert.ReferenceIdeal.Value

end
-- ==== Proof.RefQ.lean ====
module

public import proofs.«01_k».proof.Proof.RefRun
public import proofs.«01_k».proof.Proof.RefGather
public import proofs.«01_k».proof.Proof.Spec
public import Idealize.ShloMosaic.Lib.Pointwise

@[expose] public section

set_option maxRecDepth 16384

noncomputable section

/-! What the reference computes before its loop. -/

namespace Cert.ReferenceIdeal.Value

open Idealize.ShloMosaic Idealize.ShloMosaic.TcCoe Idealize.ShloMosaic.StableHlo
open Cert.ReferenceIdeal.Gen Cert.Spec

variable (V : Valuation τ sig (Elt Ideal))

theorem words_at (p : Fin 5) (g : Fin 40) (k : Fin 256) (w : Fin 4) : after hostOps0 V (Proc.devRef .tc main_v3) (ix4 p g k w)
    = Ideal.ofBits .f32 (BitVec.setWidth 32 (V (Proc.devRef .tc main_arg2) (ix4 p g k w) : BitVec 16) <<< 16) := by
  after_results
  pointwise
  rfl

theorem mats_at (p : Fin 5) : after hostOps0 V (Proc.devRef .tc main_v5) (ix3 p (0 : Fin 1) (0 : Fin 1)) = BitVec.ofNat 32 p.val := by
  after_results
  pointwise

theorem four_at (i : Fin 1280) : after hostOps0 V (Proc.devRef .tc main_v8) (ix1 i) = BitVec.ofNat 32 (4 * i.val) := by
  after_results
  pointwise
  have h : ∀ i : Fin 1280, (IntOp.muli (BitVec.ofNat 32 i.val) 4#32 : BitVec 32) = BitVec.ofNat 32 (4 * i.val) := by decide +kernel
  exact h i

theorem c128_at : after hostOps0 V (Proc.devRef .tc main_c_1) = constantI S_ 32 128#32 := by
  after_results

theorem floor_div : ∀ i : Fin 1280, Scalar.select
      (IntOp.andi
        (IntOp.cmpi CmpIPredicate.ne
          (if BitVec.ofNat 32 (4 * i.val) = 0 then (0 : BitVec 32) else if (BitVec.ofNat 32 (4 * i.val)).msb = true then (-1 : BitVec 32) else (1 : BitVec 32))
          (if (128#32 : BitVec 32) = 0 then (0 : BitVec 32)
          else if BitVec.msb 128#32 = true then (-1 : BitVec 32) else (1 : BitVec 32)))
        (IntOp.cmpi CmpIPredicate.ne
          (IntOp.remsi ArithUnit.host (BitVec.ofNat 32 (4 * i.val)) 128#32) 0#32))
      (IntOp.subi (IntOp.divsi ArithUnit.host (BitVec.ofNat 32 (4 * i.val)) 128#32) 1#32)
      (IntOp.divsi ArithUnit.host (BitVec.ofNat 32 (4 * i.val)) 128#32) =
    BitVec.ofNat 32 (i.val / 32) := by decide +kernel

theorem group_at (i : Fin 1280) (h8 : V (Proc.devRef .tc main_v8) (ix1 i) = BitVec.ofNat 32 (4 * i.val)) (hc : V (Proc.devRef .tc main_c_1) = constantI S_ 32 128#32) :
    after hostOps0_1 V (Proc.devRef .tc main_v9) (ix1 i) = BitVec.ofNat 32 (i.val / 32) := by
  after_results
  rw [hc]
  simp only [TRef.ofBuf_toBuf]
  simp only [TRef.ofBuf, TRef.toBuf, cast_eq]
  simp only [id_eq]
  pointwise [h8]
  exact floor_div i

theorem wrap5 : ∀ p : Fin 5, Scalar.select (IntOp.cmpi .slt (BitVec.ofNat 32 p.val) 0#32) (IntOp.addi (BitVec.ofNat 32 p.val) 5#32) (BitVec.ofNat 32 p.val) = BitVec.ofNat 32 p.val := by decide +kernel
theorem wrap40 : ∀ i : Fin 1280, Scalar.select (IntOp.cmpi .slt (BitVec.ofNat 32 (i.val / 32)) 0#32) (IntOp.addi (BitVec.ofNat 32 (i.val / 32)) 40#32) (BitVec.ofNat 32 (i.val / 32)) = BitVec.ofNat 32 (i.val / 32) := by decide +kernel
theorem wrap256 : ∀ n < 256, Scalar.select (IntOp.cmpi .slt (BitVec.setWidth 32 (BitVec.ofNat 8 n)) 0#32) (IntOp.addi (BitVec.setWidth 32 (BitVec.ofNat 8 n)) 256#32) (BitVec.setWidth 32 (BitVec.ofNat 8 n))
    = BitVec.ofNat 32 n := by decide +kernel
theorem wrap256' (c : BitVec 8) : Scalar.select (IntOp.cmpi .slt (BitVec.setWidth 32 c) 0#32) (IntOp.addi (BitVec.setWidth 32 c) 256#32) (BitVec.setWidth 32 c)
    = BitVec.ofNat 32 c.toNat := by
  have h := wrap256 c.toNat c.isLt
  rwa [BitVec.ofNat_toNat, BitVec.setWidth_eq] at h

/-- The operations that make the three index arrays, and the rest. -/
def idxOps : List (HloOp τ sig (Elt Ideal)) := hostOps0_2.take 28
def tailOps : List (HloOp τ sig (Elt Ideal)) := hostOps0_2.drop 28

theorem ops_split : after hostOps0_2 V = after tailOps (after idxOps V) := rfl

theorem tail_at (p : Fin 5) (r : Fin 1536) (j : Fin 5120) (a : Fin 5) (b : Fin 40) (c : Fin 256)
    (ha : V (Proc.devRef .tc main_v29) (ix4 p r (⟨j.val / 4, by omega⟩ : Fin 1280) (0 : Fin 1)) = BitVec.ofNat 32 a.val)
    (hb : V (Proc.devRef .tc main_v30) (ix4 p r (⟨j.val / 4, by omega⟩ : Fin 1280) (0 : Fin 1)) = BitVec.ofNat 32 b.val)
    (hc : V (Proc.devRef .tc main_v31) (ix4 p r (⟨j.val / 4, by omega⟩ : Fin 1280) (0 : Fin 1)) = BitVec.ofNat 32 c.val) :
    after tailOps V (Proc.devRef .tc main_v35) (ix3 p r j) = V (Proc.devRef .tc main_v3) (ix4 a b c (⟨j.val % 4, by omega⟩ : Fin 4)) := by
  unfold tailOps
  dsimp only [hostOps0_2, List.drop]
  after_results
  dsimp only [Matrix.cons_val]
  pointwise
  refine (gather_at _ _ _ _ _ _ a b c ?_ ?_ ?_).trans ?_
  · pointwise [ha]
  · pointwise [hb]
  · pointwise [hc]
  · rfl

theorem idx_at (p : Fin 5) (r : Fin 1536) (i : Fin 1280)
    (h9 : ∀ i : Fin 1280, V (Proc.devRef .tc main_v9) (ix1 i) = BitVec.ofNat 32 (i.val / 32)) (h5 : ∀ p : Fin 5, V (Proc.devRef .tc main_v5) (ix3 p (0 : Fin 1) (0 : Fin 1)) = BitVec.ofNat 32 p.val) :
    after idxOps V (Proc.devRef .tc main_v29) (ix4 p r i (0 : Fin 1)) = BitVec.ofNat 32 p.val
    ∧ after idxOps V (Proc.devRef .tc main_v30) (ix4 p r i (0 : Fin 1)) = BitVec.ofNat 32 (i.val / 32)
    ∧ after idxOps V (Proc.devRef .tc main_v31) (ix4 p r i (0 : Fin 1)) = BitVec.ofNat 32 (BitVec.toNat (w := 8) (V (Proc.devRef .tc main_arg1) (ix3 p r i))) := by
  unfold idxOps
  dsimp only [hostOps0_2, List.take]
  refine ⟨?_, ?_, ?_⟩
  · after_results
    pointwise [h5]
    exact wrap5 p
  · after_results
    pointwise [h9]
    exact wrap40 i
  · after_results
    pointwise
    exact wrap256' _

theorem tail_keeps : after tailOps V (Proc.devRef .tc main_v40_0) = V (Proc.devRef .tc main_arg3)
    ∧ (∀ y, after tailOps V (Proc.devRef .tc main_v40_1) y = HSub.hSub (α := EReal) (β := EReal) (γ := EReal) (V (Proc.devRef .tc main_arg0) y) (after tailOps V (Proc.devRef .tc main_v35) y))
    ∧ after tailOps V (Proc.devRef .tc main_v40_3) = constantI S_ 32 0#32
    ∧ ∀ y, after tailOps V (Proc.devRef .tc main_v40_4) y = (0 : EReal) := by
  unfold tailOps
  dsimp only [hostOps0_2, List.drop]
  refine ⟨?_, ?_, ?_, ?_⟩
  · after_results
    rfl
  · intro y
    after_results
    rfl
  · after_results
    rfl
  · intro y
    after_results
    exact Ideal.ofBits_zero_f32

theorem idx_keeps : after idxOps V (Proc.devRef .tc main_v3) = V (Proc.devRef .tc main_v3) := by
  unfold idxOps
  dsimp only [hostOps0_2, List.take]
  after_results

theorem div_keeps : after hostOps0_1 V (Proc.devRef .tc main_v3) = V (Proc.devRef .tc main_v3)
    ∧ after hostOps0_1 V (Proc.devRef .tc main_v5) = V (Proc.devRef .tc main_v5)
    ∧ after hostOps0_1 V (Proc.devRef .tc main_arg1) = V (Proc.devRef .tc main_arg1) := by
  refine ⟨?_, ?_, ?_⟩ <;> after_results

theorem words_keeps : after hostOps0 V (Proc.devRef .tc main_arg1) = V (Proc.devRef .tc main_arg1) := by
  after_results

theorem args_keeps : after idxOps (after hostOps0_1 (after hostOps0 V)) (Proc.devRef .tc main_arg0) = V (Proc.devRef .tc main_arg0)
    ∧ after idxOps (after hostOps0_1 (after hostOps0 V)) (Proc.devRef .tc main_arg3) = V (Proc.devRef .tc main_arg3) := by
  unfold idxOps
  dsimp only [hostOps0_2, List.take]
  refine ⟨?_, ?_⟩ <;> after_results

/-- The values the reference looks up. -/
theorem value_at (p : Fin 5) (r : Fin 1536) (j : Fin 5120) :
    after hostOps0_2 (after hostOps0_1 (after hostOps0 V)) (Proc.devRef .tc main_v35) (ix3 p r j)
    = value (V (Proc.devRef .tc main_arg1)) (V (Proc.devRef .tc main_arg2)) p r j := by
  rw [ops_split]
  have h9 : ∀ i : Fin 1280, after hostOps0_1 (after hostOps0 V) (Proc.devRef .tc main_v9) (ix1 i) = BitVec.ofNat 32 (i.val / 32) := fun i =>
    group_at _ i (four_at V i) (c128_at V)
  have h5 : ∀ p : Fin 5, after hostOps0_1 (after hostOps0 V) (Proc.devRef .tc main_v5) (ix3 p (0 : Fin 1) (0 : Fin 1)) = BitVec.ofNat 32 p.val := fun p => by
    rw [(div_keeps _).2.1]; exact mats_at V p
  obtain ⟨ha, hb, hc⟩ := idx_at (after hostOps0_1 (after hostOps0 V)) p r (⟨j.val / 4, by omega⟩ : Fin 1280) h9 h5
  rw [(div_keeps _).2.2, words_keeps] at hc
  have e : j.val / 4 / 32 = j.val / 128 := by omega
  rw [tail_at _ p r j p (⟨j.val / 128, by omega⟩ : Fin 40) (⟨BitVec.toNat (w := 8) (V (Proc.devRef .tc main_arg1) (ix3 p r (⟨j.val / 4, by omega⟩ : Fin 1280))), BitVec.isLt _⟩ : Fin 256) ha (by rw [hb, e]) hc,
    idx_keeps, (div_keeps _).1, words_at]
  rfl

/-- What the loop starts from. -/
theorem start_at (m : (ax : Loc nD τ sig) → Buf (Elt Ideal) ax) (c : Dev nD) :
    entryContents preI m c (Proc.devRef .tc main_v40_0) = m ((c.tc : Thread nD τ).loc main_arg3)
    ∧ (∀ p r j, entryContents preI m c (Proc.devRef .tc main_v40_1) (ix3 p r j)
        = HSub.hSub (α := EReal) (β := EReal) (γ := EReal) (m ((c.tc : Thread nD τ).loc main_arg0) (ix3 p r j)) (value (m ((c.tc : Thread nD τ).loc main_arg1)) (m ((c.tc : Thread nD τ).loc main_arg2)) p r j))
    ∧ entryContents preI m c (Proc.devRef .tc main_v40_3) = constantI S_ 32 0#32
    ∧ (∀ y, entryContents preI m c (Proc.devRef .tc main_v40_4) y = (0 : EReal))
    ∧ ∀ p r j, entryContents preI m c (Proc.devRef .tc main_v35) (ix3 p r j) = value (m ((c.tc : Thread nD τ).loc main_arg1)) (m ((c.tc : Thread nD τ).loc main_arg2)) p r j := by
  have hv := value_at (launchContents m c)
  obtain ⟨h0, h1, h3, h4⟩ := tail_keeps (after idxOps (after hostOps0_1 (after hostOps0 (launchContents m c))))
  obtain ⟨a0, a3⟩ := args_keeps (launchContents m c)
  simp only [entryContents, afterL_cons, afterL_nil]
  rw [ops_split]
  refine ⟨h0.trans a3, fun p r j => (h1 _).trans ?_, h3, h4, fun p r j => ?_⟩
  · rw [a0, ← ops_split]
    exact congrArg (HSub.hSub (α := EReal) (β := EReal) (γ := EReal) _) (hv p r j)
  · rw [← ops_split]
    exact hv p r j

end Cert.ReferenceIdeal.Value

end
-- ==== Proof.RefSlice.lean ====
module

public import proofs.«01_k».proof.Proof.RefQ
public import Idealize.ShloMosaic.Lib.Pointwise

@[expose] public section

set_option maxRecDepth 16384

noncomputable section

/-! What the reference's loop computes: after `n` trips the first `n` columns of the errors are the solution's, the others zero. -/

namespace Cert.ReferenceIdeal.Value

open Idealize.ShloMosaic Idealize.ShloMosaic.TcCoe Idealize.ShloMosaic.StableHlo
open Cert.ReferenceIdeal.Gen Cert.Spec Cert.Alg Cert.Reals

variable (V : Valuation τ sig (Elt Ideal))

theorem wrap5120 : ∀ n < 5120, (Scalar.select (IntOp.cmpi .slt (BitVec.ofNat 32 n) 0#32) (IntOp.addi (BitVec.ofNat 32 n) 5120#32) (BitVec.ofNat 32 n) : BitVec 32).toInt = (n : ℤ) := by
  intro n hn
  have h : IntOp.cmpi .slt (BitVec.ofNat 32 n) 0#32 = 0#1 := by
    show BitVec.ofBool (BitVec.slt (BitVec.ofNat 32 n) 0#32) = 0#1
    rw [BitVec.slt_zero_eq_msb, BitVec.msb_eq_false_iff_two_mul_lt.2 (by rw [BitVec.toNat_ofNat]; omega)]
    rfl
  rw [h]
  show (BitVec.ofNat 32 n).toInt = n
  rw [BitVec.toInt_eq_toNat_of_lt (by rw [BitVec.toNat_ofNat]; omega), BitVec.toNat_ofNat]
  omega

/-- A column of the differences. -/
theorem slice3 (x : S5x1536x5120.Idx → EReal) (st : Fin 3 → ℤ) (n : Fin 5120) (h0 : st 0 = 0) (h1 : st 1 = 0) (h2 : st 2 = n.val) (p : Fin 5) (r : Fin 1536) (z : Fin 1) :
    Host.dynamicSlice S5x1536x1 x st sliceFits_S5x1536x5120_S5x1536x1 (ix3 p r z) = x (ix3 p r n) := by
  rw [Host.dynamicSlice_apply]
  refine congrArg x (funext fun a => Fin.ext ?_)
  have hz : z.val = 0 := by omega
  match a with
  | 0 =>
    show Host.clampedStart S5x1536x5120 S5x1536x1 _ st 0 + p.val = p.val
    rw [Host.clampedStart_of_le (s := S5x1536x5120) (t := S5x1536x1) _ st 0 0 h0 (by show 0 + 5 ≤ 5; omega), Nat.zero_add]
  | 1 =>
    show Host.clampedStart S5x1536x5120 S5x1536x1 _ st 1 + r.val = r.val
    rw [Host.clampedStart_of_le (s := S5x1536x5120) (t := S5x1536x1) _ st 1 0 h1 (by show 0 + 1536 ≤ 1536; omega), Nat.zero_add]
  | 2 =>
    show Host.clampedStart S5x1536x5120 S5x1536x1 _ st 2 + z.val = n.val
    rw [Host.clampedStart_of_le (s := S5x1536x5120) (t := S5x1536x1) _ st 2 n.val h2 (by show n.val + 1 ≤ 5120; omega), hz]; rfl

/-- A column of the matrix. -/
theorem slice2 (x : S5120x5120.Idx → EReal) (st : Fin 2 → ℤ) (n : Fin 5120) (h0 : st 0 = 0) (h1 : st 1 = n.val) (k : Fin 5120) (z : Fin 1) :
    Host.dynamicSlice S5120x1 x st sliceFits_S5120x5120_S5120x1 (ix2 k z) = x (ix2 k n) := by
  rw [Host.dynamicSlice_apply]
  refine congrArg x (funext fun a => Fin.ext ?_)
  have hz : z.val = 0 := by omega
  match a with
  | 0 =>
    show Host.clampedStart S5120x5120 S5120x1 _ st 0 + k.val = k.val
    rw [Host.clampedStart_of_le (s := S5120x5120) (t := S5120x1) _ st 0 0 h0 (by show 0 + 5120 ≤ 5120; omega), Nat.zero_add]
  | 1 =>
    show Host.clampedStart S5120x5120 S5120x1 _ st 1 + z.val = n.val
    rw [Host.clampedStart_of_le (s := S5120x5120) (t := S5120x1) _ st 1 n.val h1 (by show n.val + 1 ≤ 5120; omega), hz]; rfl

/-- An entry of the column. -/
theorem slice1 (x : S5120x1.Idx → EReal) (st : Fin 2 → ℤ) (n : Fin 5120) (h0 : st 0 = n.val) (h1 : st 1 = 0) (y z : Fin 1) :
    Host.dynamicSlice S1x1 x st sliceFits_S5120x1_S1x1 (ix2 y z) = x (ix2 n (0 : Fin 1)) := by
  rw [Host.dynamicSlice_apply]
  refine congrArg x (funext fun a => Fin.ext ?_)
  have hy : y.val = 0 := by omega
  have hz : z.val = 0 := by omega
  match a with
  | 0 =>
    show Host.clampedStart S5120x1 S1x1 _ st 0 + y.val = n.val
    rw [Host.clampedStart_of_le (s := S5120x1) (t := S1x1) _ st 0 n.val h0 (by show n.val + 1 ≤ 5120; omega), hy]; rfl
  | 1 =>
    show Host.clampedStart S5120x1 S1x1 _ st 1 + z.val = 0
    rw [Host.clampedStart_of_le (s := S5120x1) (t := S1x1) _ st 1 0 h1 (by show 0 + 1 ≤ 1; omega), hz]

/-- A column of the errors replaced. -/
theorem update3 (x : S5x1536x5120.Idx → EReal) (u : S5x1536x1.Idx → EReal) (st : Fin 3 → ℤ) (n : Fin 5120) (h0 : st 0 = 0) (h1 : st 1 = 0) (h2 : st 2 = n.val) (p : Fin 5) (r : Fin 1536) (j : Fin 5120) :
    Host.dynamicUpdateSlice x u st updateFits_S5x1536x5120_S5x1536x1 (ix3 p r j) = if j = n then u (ix3 p r (0 : Fin 1)) else x (ix3 p r j) := by
  have e0 : Host.clampedStart S5x1536x5120 S5x1536x1 updateFits_S5x1536x5120_S5x1536x1.1 st 0 = 0 := Host.clampedStart_of_le (s := S5x1536x5120) (t := S5x1536x1) _ st 0 0 h0 (by show 0 + 5 ≤ 5; omega)
  have e1 : Host.clampedStart S5x1536x5120 S5x1536x1 updateFits_S5x1536x5120_S5x1536x1.1 st 1 = 0 := Host.clampedStart_of_le (s := S5x1536x5120) (t := S5x1536x1) _ st 1 0 h1 (by show 0 + 1536 ≤ 1536; omega)
  have e2 : Host.clampedStart S5x1536x5120 S5x1536x1 updateFits_S5x1536x5120_S5x1536x1.1 st 2 = n.val := Host.clampedStart_of_le (s := S5x1536x5120) (t := S5x1536x1) _ st 2 n.val h2 (by show n.val + 1 ≤ 5120; omega)
  rw [Host.dynamicUpdateSlice_apply]
  by_cases hj : j = n
  · rw [if_pos hj, dif_pos]
    · refine congrArg u (funext fun a => Fin.ext ?_)
      match a with
      | 0 => show p.val - Host.clampedStart S5x1536x5120 S5x1536x1 _ st 0 = p.val; rw [e0]; rfl
      | 1 => show r.val - Host.clampedStart S5x1536x5120 S5x1536x1 _ st 1 = r.val; rw [e1]; rfl
      | 2 => show j.val - Host.clampedStart S5x1536x5120 S5x1536x1 _ st 2 = 0; rw [e2, hj]; exact Nat.sub_self _
    · intro a
      match a with
      | 0 => show Host.clampedStart S5x1536x5120 S5x1536x1 _ st 0 ≤ p.val ∧ p.val < Host.clampedStart S5x1536x5120 S5x1536x1 _ st 0 + 5; rw [e0]; omega
      | 1 => show Host.clampedStart S5x1536x5120 S5x1536x1 _ st 1 ≤ r.val ∧ r.val < Host.clampedStart S5x1536x5120 S5x1536x1 _ st 1 + 1536; rw [e1]; omega
      | 2 => show Host.clampedStart S5x1536x5120 S5x1536x1 _ st 2 ≤ j.val ∧ j.val < Host.clampedStart S5x1536x5120 S5x1536x1 _ st 2 + 1; rw [e2, hj]; omega
  · rw [if_neg hj, dif_neg]
    intro h
    have h' : Host.clampedStart S5x1536x5120 S5x1536x1 updateFits_S5x1536x5120_S5x1536x1.1 st 2 ≤ j.val ∧ j.val < Host.clampedStart S5x1536x5120 S5x1536x1 updateFits_S5x1536x5120_S5x1536x1.1 st 2 + 1 := h 2
    rw [e2] at h'
    exact hj (Fin.ext (by omega))

theorem dot_at (e : FVec Ideal S5x1536x5120 .f32) (v : FVec Ideal S5120x1 .f32) (p : Fin 5) (r : Fin 1536) :
    Host.dotGeneral dot_S5x1536x5120_S5120x1_S5x1536x1_2_0_01_1_n_n (some .fp32) e v (ix3 p r (0 : Fin 1))
    = ∑ k : Fin 5120, HMul.hMul (α := EReal) (β := EReal) (γ := EReal) (e (ix3 p r k)) (v (ix2 k (0 : Fin 1))) := by
  pointwise

/-- The sum over the columns: those not yet solved are zero and drop out. -/
theorem sum_at (n : ℕ) (hn : n < 5120) (a : ℕ → ℝ) (x y : Fin 5120 → EReal) (b : ℕ → ℝ)
    (hx : ∀ k : Fin 5120, x k = if k.val < n then ((a k.val : ℝ) : EReal) else 0) (hy : ∀ k : Fin 5120, k.val < n → y k = ((b k.val : ℝ) : EReal)) :
    (∑ k : Fin 5120, x k * y k) = ((∑ k ∈ Finset.range n, a k * b k : ℝ) : EReal) := by
  have e : ∀ k : Fin 5120, x k * y k = (((if k.val < n then a k.val else 0 : ℝ)) : EReal) * ((b k.val : ℝ) : EReal) := fun k => by
    rw [hx k]
    by_cases h : k.val < n
    · rw [if_pos h, if_pos h, hy k h]
    · rw [if_neg h, if_neg h, zero_mul, EReal.coe_zero, zero_mul]
  rw [Finset.sum_congr rfl fun k _ => e k, sum_mul_coe 5120 (fun k => if k < n then a k else 0) b]
  congr 1
  rw [← Finset.sum_subset (Finset.range_subset_range.2 hn.le) (fun k _ hk => by rw [if_neg (fun h => hk (Finset.mem_range.2 h)), zero_mul])]
  exact Finset.sum_congr rfl fun k hk => by rw [if_pos (Finset.mem_range.1 hk)]

end Cert.ReferenceIdeal.Value

end
-- ==== Proof.RefErr.lean ====
module

public import proofs.«01_k».proof.Proof.RefSlice
public import Idealize.ShloMosaic.Lib.Pointwise

@[expose] public section

set_option maxRecDepth 16384

noncomputable section

/-! What the reference's loop computes: after `n` trips the first `n` columns of the errors are the solution's, the others zero. -/

namespace Cert.ReferenceIdeal.Value

open Idealize.ShloMosaic Idealize.ShloMosaic.TcCoe Idealize.ShloMosaic.StableHlo
open Cert.ReferenceIdeal.Gen Cert.Spec Cert.Alg Cert.Reals

variable (V : Valuation τ sig (Elt Ideal))

variable (res : ℕ → ℕ → ℕ → ℝ) (u : ℕ → ℕ → ℝ)

theorem quot_at (a b : FVec Ideal S5x1536x1 .f32) (x : FVec Ideal S1x1 .f32) (p : Fin 5) (r : Fin 1536) :
    Host.divf (subf a b) (broadcastInDim S5x1536x1 ![0, 1, 2] bcast_S1x1x1_S5x1536x1_0_1_2 (broadcastInDim S1x1x1 ![1, 2] bcast_S1x1_S1x1x1_1_2 x)) (ix3 p r (0 : Fin 1))
    = Ideal.div (HSub.hSub (α := EReal) (β := EReal) (γ := EReal) (a (ix3 p r (0 : Fin 1))) (b (ix3 p r (0 : Fin 1)))) (x (ix2 (0 : Fin 1) (0 : Fin 1))) := by
  pointwise
  try rfl

/-- The carried buffers after `n` trips. -/
structure After (um : S5120x5120.Idx → EReal) (n : ℕ) (V : Valuation τ sig (Elt Ideal)) : Prop where
  mat : V (Proc.devRef .tc main_v40_0) = um
  diff : ∀ (p : Fin 5) (r : Fin 1536) (j : Fin 5120), V (Proc.devRef .tc main_v40_1) (ix3 p r j) = ((res p.val r.val j.val : ℝ) : EReal)
  count : V (Proc.devRef .tc main_v40_3) = fun _ => BitVec.ofNat 32 n
  err : ∀ (p : Fin 5) (r : Fin 1536) (j : Fin 5120), V (Proc.devRef .tc main_v40_4) (ix3 p r j) = if j.val < n then ((sol (res p.val r.val) u j.val : ℝ) : EReal) else 0

theorem After.step (um : S5120x5120.Idx → EReal) (hu : ∀ i j : Fin 5120, i.val ≤ j.val → um (ix2 i j) = ((u i.val j.val : ℝ) : EReal)) (hd : ∀ k < 5120, u k k ≠ 0)
    (n : ℕ) (hn : n < 5120) (H : After res u um n V) : After res u um (n + 1) (STEP V) where
  mat := (STEP_main_v40_0 V).trans H.mat
  diff p r j := (congrFun (STEP_main_v40_1 V) _).trans (H.diff p r j)
  count := by
    rw [STEP_main_v40_3]
    unfold step_main_v40_3
    rw [H.count]
    funext y
    exact (BitVec.ofNat_add n 1).symm
  err p r j := by
    rw [STEP_main_v40_4]
    unfold step_main_v40_4
    rw [id_eq]
    have hc : ∀ y, (select (cmpi .slt (V (Proc.devRef .tc main_v40_3)) (constantI S_ 32 0#32)) (addi (id (V (Proc.devRef .tc main_v40_3))) (constantI S_ 32 5120#32)) (V (Proc.devRef .tc main_v40_3)) y : BitVec 32).toInt = (n : ℤ) := fun y => by
      rw [H.count]; exact wrap5120 n hn
    have hcol : ∀ k : Fin 5120, res_main_while0b_v46 V (ix2 k (0 : Fin 1)) = um (ix2 k (⟨n, hn⟩ : Fin 5120)) := fun k => by
      unfold res_main_while0b_v46
      rw [H.mat]
      exact slice2 um _ ⟨n, hn⟩ rfl (hc _) k 0
    refine (update3 _ _ _ ⟨n, hn⟩ rfl rfl (hc _) p r j).trans ?_
    by_cases hj : j = ⟨n, hn⟩
    · have hjn : j.val = n := congrArg Fin.val hj
      rw [if_pos hj, if_pos (by omega), hjn]
      have hsum := (dot_at (V (Proc.devRef .tc main_v40_4)) (res_main_while0b_v46 V) p r).trans
        (sum_at n hn (sol (res p.val r.val) u) _ _ (fun k => u k n) (H.err p r) (fun k hk => (hcol k).trans (hu k ⟨n, hn⟩ hk.le)))
      refine (quot_at _ _ _ p r).trans ?_
      rw [slice3 _ _ ⟨n, hn⟩ rfl rfl (hc _), slice1 _ _ ⟨n, hn⟩ (hc _) rfl, hsum, H.diff, hcol, hu _ _ le_rfl]
      rw [← EReal.coe_sub, div_coe (hd n hn), sol_eq]
    · have hjn : j.val ≠ n := fun h => hj (Fin.ext h)
      rw [if_neg hj, H.err]
      by_cases h : j.val < n
      · rw [if_pos h, if_pos (by omega)]
      · rw [if_neg h, if_neg (by omega)]

theorem After.all (um : S5120x5120.Idx → EReal) (hu : ∀ i j : Fin 5120, i.val ≤ j.val → um (ix2 i j) = ((u i.val j.val : ℝ) : EReal)) (hd : ∀ k < 5120, u k k ≠ 0)
    (H : After res u um 0 V) : ∀ n ≤ 5120, After res u um n (STEP^[n] V)
  | 0, _ => H
  | n + 1, h => by
    rw [Function.iterate_succ_apply']
    exact (After.all um hu hd H n (by omega)).step _ res u um hu hd n (by omega)

/-- The errors the reference computes. -/
theorem err_at (m : (ax : Loc nD τ sig) → Buf (Elt Ideal) ax) (c : Dev nD)
    (H : Spec.Real (m ((c.tc : Thread nD τ).loc main_arg0)) (m ((c.tc : Thread nD τ).loc main_arg1)) (m ((c.tc : Thread nD τ).loc main_arg2)) (m ((c.tc : Thread nD τ).loc main_arg3)) res u)
    (p : Fin 5) (r : Fin 1536) (j : Fin 5120) :
    (STEP^[5120] (entryContents preI m c)) (Proc.devRef .tc main_v40_4) (ix3 p r j) = ((sol (res p.val r.val) u j.val : ℝ) : EReal) := by
  obtain ⟨h0, h1, h3, h4, h5⟩ := start_at m c
  have e := (After.all (entryContents preI m c) res u (m ((c.tc : Thread nD τ).loc main_arg3)) H.upper H.diag
    ⟨h0, fun p r j => (h1 p r j).trans (H.diff p r j), h3, fun p r j => (h4 _).trans (if_neg (by omega)).symm⟩ 5120 le_rfl).err p r j
  rwa [if_pos j.isLt] at e

end Cert.ReferenceIdeal.Value

end
-- ==== Proof.PreReal.lean ====
module

public import proofs.«01_k».proof.Proof.Spec
public import proofs.«01_k».proof.Proof.Gen.Pre_solvable
public import Idealize.ShloMosaic.Lib.Pointwise

@[expose] public section

set_option maxRecDepth 16384

noncomputable section

/-! From the precondition to real numbers. -/

namespace Cert.Pre

open Idealize.ShloMosaic Cert.Spec Cert.Reals Cert.Pre_solvable

theorem inf_top : Ideal.ofBits .f32 2139095040#32 = (⊤ : EReal) := by
  show Ideal.ieee 8 23 (2139095040#32 : BitVec 32) = ⊤
  unfold Ideal.ieee
  simp

/-- A value whose absolute value is less than infinity is a real number. -/
theorem abs_lt_top (x : EReal) (h : FloatOps.absf (F := Ideal) (φ := .f32) x < Ideal.ofBits .f32 2139095040#32) : ∃ r : ℝ, x = (r : EReal) := by
  rw [inf_top] at h
  have h' : max x (-x) < (⊤ : EReal) := h
  rw [max_lt_iff] at h'
  refine exists_real h'.1.ne ?_
  rintro rfl
  simp at h'

theorem of_ofBool {p : Prop} [Decidable p] (h : BitVec.ofBool (decide p) = 1#1) : p := by
  by_contra hp
  rw [decide_eq_false hp] at h
  exact absurd h (by decide)

theorem of_ori {a b : BitVec 1} (h : IntOp.ori a b = 1#1) (ha : a = 0#1) : b = 1#1 := by
  subst ha
  revert b
  decide

/-- A word whose exponent is not all ones is a real number. -/
theorem word_real (b : BitVec 16) (h : BitVec.setWidth 32 b &&& 32640#32 ≠ 32640#32) : ∃ r : ℝ, Ideal.ofBits .f32 (BitVec.setWidth 32 b <<< 16) = (r : EReal) := by
  show ∃ r : ℝ, Ideal.ieee 8 23 (BitVec.setWidth 32 b <<< 16 : BitVec 32) = (r : EReal)
  unfold Ideal.ieee
  have hx : ¬ ((BitVec.setWidth 32 b <<< 16 : BitVec 32).extractLsb' 23 8).toNat = 2 ^ 8 - 1 := by
    intro e
    apply h
    have e' : (BitVec.setWidth 32 b <<< 16 : BitVec 32).extractLsb' 23 8 = 255#8 := BitVec.eq_of_toNat_eq e
    have key : ∀ b : BitVec 16, (BitVec.setWidth 32 b <<< 16 : BitVec 32).extractLsb' 23 8 = 255#8 → BitVec.setWidth 32 b &&& 32640#32 = 32640#32 := by
      intro b hb
      have hbit : ∀ k < 8, b.getLsbD (7 + k) = true := fun k hk => by
        have e1 := congrArg (fun v : BitVec 8 => v.getLsbD k) hb
        have e2 : (255#8).getLsbD k = true := by clear e1; revert k; decide
        simp only [e2, BitVec.getLsbD_extractLsb', BitVec.getLsbD_shiftLeft, BitVec.getLsbD_setWidth] at e1
        rw [show 23 + k - 16 = 7 + k by omega] at e1
        simp only [Bool.and_eq_true] at e1
        exact e1.2.2.2
      apply BitVec.eq_of_getLsbD_eq
      intro i hi
      rw [BitVec.getLsbD_and, BitVec.getLsbD_setWidth]
      by_cases h1 : 7 ≤ i ∧ i < 15
      · have e1 := hbit (i - 7) (by omega)
        rw [show 7 + (i - 7) = i by omega] at e1
        rw [e1, decide_eq_true hi, Bool.true_and, Bool.true_and]
      · have e1 : ∀ i < 32, ¬ (7 ≤ i ∧ i < 15) → (32640#32).getLsbD i = false := by decide
        rw [e1 i hi h1, Bool.and_false]
    exact key b e'
  dsimp only
  rw [if_neg hx]
  split
  · exact ⟨_, rfl⟩
  · exact ⟨_, rfl⟩

variable (w : FVec Ideal S5x1536x5120 .bf16) (codes : IVec S5x1536x1280 8) (book : IVec S5x40x256x4 16) (um : FVec Ideal S5120x5120 .f32)

theorem w_real (h : (fn (F := Ideal) w codes book um).1 = fun _ => 1#1) (p : Fin 5) (r : Fin 1536) (j : Fin 5120) : ∃ x : ℝ, w (ix3 p r j) = (x : EReal) := by
  have e := congrFun h (ix3 p r j)
  unfold fn fn_part1 at e
  dsimp only at e
  pointwise at e
  exact abs_lt_top _ (of_ofBool e)

theorem book_real (h : (fn (F := Ideal) w codes book um).2.1 = fun _ => 1#1) (p : Fin 5) (g : Fin 40) (k : Fin 256) (l : Fin 4) :
    ∃ x : ℝ, Ideal.ofBits .f32 (BitVec.setWidth 32 (book (ix4 p g k l)) <<< 16) = (x : EReal) := by
  have e := congrFun h (ix4 p g k l)
  unfold fn fn_part1 at e
  dsimp only at e
  pointwise at e
  refine word_real _ fun h' => ?_
  have e' : IntOp.cmpi CmpIPredicate.ne (BitVec.setWidth 32 (book (ix4 p g k l) : BitVec 16) &&& 32640#32 : BitVec 32) 32640#32 = 1#1 := e
  rw [h'] at e'
  exact absurd e' (by decide)

theorem u_real (h : (fn (F := Ideal) w codes book um).2.2.1 = fun _ => 1#1) (i j : Fin 5120) (hij : i.val ≤ j.val) : ∃ x : ℝ, um (ix2 i j) = (x : EReal) := by
  have e := congrFun h (ix2 i j)
  unfold fn fn_part1 at e
  dsimp only at e
  pointwise at e
  refine abs_lt_top _ (of_ofBool (of_ori e ?_))
  show BitVec.ofBool (BitVec.slt (BitVec.ofNat 32 j.val) (BitVec.ofNat 32 i.val)) = 0#1
  have hi := i.isLt
  have hj := j.isLt
  rw [show BitVec.slt (BitVec.ofNat 32 j.val) (BitVec.ofNat 32 i.val) = false from ?_]
  · rfl
  · unfold BitVec.slt
    rw [decide_eq_false_iff_not, BitVec.toInt_eq_toNat_of_lt (by rw [BitVec.toNat_ofNat]; omega), BitVec.toInt_eq_toNat_of_lt (by rw [BitVec.toNat_ofNat]; omega), BitVec.toNat_ofNat, BitVec.toNat_ofNat]
    omega

theorem u_diag (h : (fn (F := Ideal) w codes book um).2.2.2 = fun _ => 1#1) (i : Fin 5120) : um (ix2 i i) ≠ (0 : EReal) := by
  have e := congrFun h (ix2 i i)
  unfold fn fn_part1 at e
  dsimp only at e
  pointwise at e
  refine of_ofBool (of_ori e ?_)
  show BitVec.ofBool (BitVec.ofNat 32 i.val != BitVec.ofNat 32 i.val) = 0#1
  simp

/-- Under the precondition the arguments are real numbers wherever the problem reads them. -/
theorem reals (h : (fn (F := Ideal) w codes book um).1 = (fun _ => 1#1) ∧ (fn (F := Ideal) w codes book um).2.1 = (fun _ => 1#1)
      ∧ (fn (F := Ideal) w codes book um).2.2.1 = (fun _ => 1#1) ∧ (fn (F := Ideal) w codes book um).2.2.2 = fun _ => 1#1) :
    ∃ (res : ℕ → ℕ → ℕ → ℝ) (u : ℕ → ℕ → ℝ), Spec.Real w codes book um res u := by
  obtain ⟨h1, h2, h3, h4⟩ := h
  have hd : ∀ (p : Fin 5) (r : Fin 1536) (j : Fin 5120), w (ix3 p r j) - value codes book p r j = (((w (ix3 p r j) - value codes book p r j : EReal).toReal : ℝ) : EReal) := fun p r j => by
    obtain ⟨x, hx⟩ := w_real w codes book um h1 p r j
    obtain ⟨y, hy⟩ := book_real w codes book um h2 p (⟨j.val / 128, by omega⟩ : Fin 40)
      (⟨(codes (ix3 p r (⟨j.val / 4, by omega⟩ : Fin 1280))).toNat, (codes _).isLt⟩ : Fin 256) (⟨j.val % 4, by omega⟩ : Fin 4)
    have hy' : value codes book p r j = (y : EReal) := hy
    rw [hx, hy', ← EReal.coe_sub, EReal.toReal_coe]
  have hu : ∀ i j : Fin 5120, i.val ≤ j.val → um (ix2 i j) = (((um (ix2 i j) : EReal).toReal : ℝ) : EReal) := fun i j hij => by
    obtain ⟨x, hx⟩ := u_real w codes book um h3 i j hij
    rw [hx, EReal.toReal_coe]
  refine ⟨fun p r j => if h : p < 5 ∧ r < 1536 ∧ j < 5120 then
      (w (ix3 (⟨p, h.1⟩ : Fin 5) (⟨r, h.2.1⟩ : Fin 1536) (⟨j, h.2.2⟩ : Fin 5120)) - value codes book ⟨p, h.1⟩ ⟨r, h.2.1⟩ ⟨j, h.2.2⟩ : EReal).toReal else 0,
    fun i j => if h : i < 5120 ∧ j < 5120 then (um (ix2 (⟨i, h.1⟩ : Fin 5120) (⟨j, h.2⟩ : Fin 5120)) : EReal).toReal else 0, ?_, ?_, ?_⟩
  · intro p r j
    rw [dif_pos ⟨p.isLt, r.isLt, j.isLt⟩]
    exact hd p r j
  · intro i j hij
    rw [dif_pos ⟨i.isLt, j.isLt⟩]
    exact hu i j hij
  · intro k hk h0
    rw [dif_pos ⟨hk, hk⟩] at h0
    have := hu ⟨k, hk⟩ ⟨k, hk⟩ le_rfl
    rw [h0] at this
    exact u_diag w codes book um h4 ⟨k, hk⟩ this

end Cert.Pre

end
-- ==== Proof.lean ====
module

public import proofs.«01_k».proof.Defs
public import proofs.«01_k».proof.Proof.KFrame
public import proofs.«01_k».proof.Proof.KVals
public import proofs.«01_k».proof.Proof.RefErr
public import proofs.«01_k».proof.Proof.PreReal
public import Idealize.ShloMosaic.Adequacy
public import Idealize.ShloMosaic.Init

@[expose] public section

noncomputable section

namespace Cert.Proof

open Idealize.ShloMosaic Idealize.ShloMosaic.TcCoe Idealize.SL.Sem Cert.KernelIdeal.Gen

/-- The reference ends with its arguments unchanged and every semaphore at zero. -/
theorem reference_frame : Cert.quiescent_ReferenceIdeal := fun m g _ =>
  (θ_run _ _ _).mono (fun _ h => ⟨fun c => (h.1 c).2.2, h.2⟩) (Cert.ReferenceIdeal.Value.run (F := Ideal) m g)

/-- The kernel and the reference compute the same two arrays: the values looked up, and the solution of the triangular system. -/
theorem algebraic : Cert.algebraic_KernelIdeal_ReferenceIdeal_pre_solvable := fun m g m' g' hpre hargs =>
  ⟨fun c => (Cert.KernelIdeal.Solve.dat (Cert.KernelIdeal.Run.W2 m c) c).arrAt 5 Cert.KernelIdeal.cfg1.N,
    fun c => (Cert.KernelIdeal.Solve.dat (Cert.KernelIdeal.Run.W2 m c) c).arrAt 6 Cert.KernelIdeal.cfg1.N,
    (θ_run _ _ _).mono (fun _ h c => ⟨(h.1 c).1.1, (h.1 c).1.2, (h.1 c).2⟩) (Cert.KernelIdeal.Run.run (F := Ideal) m g),
    (θ_run _ _ _).mono (fun _ h c => by
      obtain ⟨e0, e1, e2, e3⟩ := hargs c
      obtain ⟨res, u, H⟩ := Cert.Pre.reals _ _ _ _ (hpre c)
      refine ⟨(h.1 c).1.trans (funext fun y => ?_), (h.1 c).2.1.trans (funext fun y => ?_), (h.1 c).2.2⟩
      · idx_vars y
        refine ((Cert.ReferenceIdeal.Value.start_at m' c).2.2.2.2 _ _ _).trans (Eq.trans ?_ (Cert.KernelIdeal.Run.q_at m c _ _ _).symm)
        rw [e1, e2]
      · idx_vars y
        refine (Cert.ReferenceIdeal.Value.err_at res u m' c (by rw [e0, e1, e2, e3]; exact H) _ _ _).trans (Cert.KernelIdeal.Run.err_at m c H _ _ _).symm)
      (Cert.ReferenceIdeal.Value.run (F := Ideal) m' g')⟩

theorem claim : Cert.Claim := ⟨Cert.Kernel.Gen.facts, Cert.KernelIdeal.Gen.facts, Cert.ReferenceIdeal.Gen.facts, Cert.Pre_solvable.Gen.facts,
  fun m g _ => Cert.Kernel.Frame.frame (F := Bits) m g,
  fun m g _ => Cert.KernelIdeal.Run.frame (F := Ideal) m g,
  fun m g _ => Cert.KernelIdeal.Run.frame (F := Ideal) m g,
  reference_frame,
  fun m g _ => reference_frame m g trivial,
  trivial,
  algebraic⟩

end Cert.Proof

end
